-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23_0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S6x256x1024 : Shape := ⟨3, ![6, 256, 1024]⟩
abbrev S6x256x4096 : Shape := ⟨3, ![6, 256, 4096]⟩
abbrev S6x256x32 : Shape := ⟨3, ![6, 256, 32]⟩
abbrev S4096x1024 : Shape := ⟨2, ![4096, 1024]⟩
abbrev S32x8 : Shape := ⟨2, ![32, 8]⟩
abbrev S1024 : Shape := ⟨1, ![1024]⟩
abbrev S6 : Shape := ⟨1, ![6]⟩
abbrev S_ : Shape := ⟨0, ![]⟩

class Facts : Prop where
  bcast_S_S6 : S_.BroadcastsInDim S6 (![] : Fin 0 → Fin S6.rank)
  reducesTo_S6_S_d0 : S6.ReducesTo [0] S_
  h_S_ : 0 < S_.numel

variable [Facts]

def fn {F : FTy → Type} [FloatOps F] (main_arg0 : FVec F S6x256x1024 .bf16) (main_arg1 : FVec F S6x256x4096 .fp8e4m3) (main_arg2 : FVec F S6x256x32 .f32) (main_arg3 : FVec F S4096x1024 .fp8e4m3) (main_arg4 : FVec F S32x8 .f32) (main_arg5 : FVec F S1024 .f32) (main_arg6 : FVec F S1024 .f32) (main_arg7 : FVec F S1024 .f32) (main_arg8 : IVec S6 32) : IVec S_ 1 :=
  let main_c : IVec S_ 32 := constantI S_ 32 2147483776#32
  let main_v0 : IVec S6 32 := broadcastInDim S6 ![] bcast_S_S6 main_c
  let main_v1 : IVec S6 1 := cmpi .sge main_arg8 main_v0
  let main_c_0 : IVec S_ 1 := constantI S_ 1 1#1
  let main_v2 : IVec S_ 1 := (fun x v => Host.reduce IntOp.andi x v reducesTo_S6_S_d0 h_S_) main_v1 main_c_0
  main_v2
-- ==== Kernel.lean ====
abbrev S6x256x1024 : Shape := ⟨3, ![6, 256, 1024]⟩
abbrev S6x256x4096 : Shape := ⟨3, ![6, 256, 4096]⟩
abbrev S6x256x32 : Shape := ⟨3, ![6, 256, 32]⟩
abbrev S4096x1024 : Shape := ⟨2, ![4096, 1024]⟩
abbrev S32x8 : Shape := ⟨2, ![32, 8]⟩
abbrev S1024 : Shape := ⟨1, ![1024]⟩
abbrev S6 : Shape := ⟨1, ![6]⟩
abbrev S1536x1024 : Shape := ⟨2, ![1536, 1024]⟩
abbrev S1536x4096 : Shape := ⟨2, ![1536, 4096]⟩
abbrev S1536x32 : Shape := ⟨2, ![1536, 32]⟩
abbrev S1x1024 : Shape := ⟨2, ![1, 1024]⟩
abbrev S6x1024 : Shape := ⟨2, ![6, 1024]⟩
abbrev S1536x8 : Shape := ⟨2, ![1536, 8]⟩
abbrev S6x1 : Shape := ⟨2, ![6, 1]⟩
abbrev S128x1024 : Shape := ⟨2, ![128, 1024]⟩
abbrev S128x4096 : Shape := ⟨2, ![128, 4096]⟩
abbrev S128x32 : Shape := ⟨2, ![128, 32]⟩
abbrev S128x8 : Shape := ⟨2, ![128, 8]⟩
abbrev S8x1024 : Shape := ⟨2, ![8, 1024]⟩
abbrev S1 : Shape := ⟨1, ![1]⟩
abbrev S128x128 : Shape := ⟨2, ![128, 128]⟩
abbrev S1x1 : Shape := ⟨2, ![1, 1]⟩
abbrev S128x1 : Shape := ⟨2, ![128, 1]⟩
abbrev S128 : Shape := ⟨1, ![128]⟩

abbrev nBuf : Space → Nat
  | .hbm => 21
  | .vmem => 23
  | .smem => 2
  | _ => 0

abbrev bufTy : (tb : Table) → Fin (tcTables nBuf tb) → BufTy
  | .hbm, ⟨0, _⟩ => ⟨S6x256x1024, .bf16⟩
  | .hbm, ⟨1, _⟩ => ⟨S6x256x4096, .fp8e4m3⟩
  | .hbm, ⟨2, _⟩ => ⟨S6x256x32, .f32⟩
  | .hbm, ⟨3, _⟩ => ⟨S4096x1024, .fp8e4m3⟩
  | .hbm, ⟨4, _⟩ => ⟨S32x8, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1536x1024, .bf16⟩
  | .hbm, ⟨9, _⟩ => ⟨S1536x4096, .fp8e4m3⟩
  | .hbm, ⟨10, _⟩ => ⟨S1536x32, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1536x1024, .f32⟩
  | .hbm, ⟨15, _⟩ => ⟨S6x1024, .f32⟩
  | .hbm, ⟨16, _⟩ => ⟨S1x1024, .f32⟩
  | .hbm, ⟨17, _⟩ => ⟨S1536x1024, .fp8e4m3⟩
  | .hbm, ⟨18, _⟩ => ⟨S1536x8, .f32⟩
  | .hbm, ⟨19, _⟩ => ⟨S6x1024, .i8⟩
  | .hbm, ⟨20, _⟩ => ⟨S6x1, .f32⟩
  | .local _ .vmem, ⟨0, _⟩ => ⟨S128x1024, .bf16⟩
  | .local _ .vmem, ⟨1, _⟩ => ⟨S128x1024, .bf16⟩
  | .local _ .vmem, ⟨2, _⟩ => ⟨S128x4096, .fp8e4m3⟩
  | .local _ .vmem, ⟨3, _⟩ => ⟨S128x4096, .fp8e4m3⟩
  | .local _ .vmem, ⟨4, _⟩ => ⟨S128x32, .f32⟩
  | .local _ .vmem, ⟨5, _⟩ => ⟨S128x32, .f32⟩
  | .local _ .vmem, ⟨6, _⟩ => ⟨S4096x1024, .fp8e4m3⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S128x1024, .f32⟩
  | .local _ .vmem, ⟨11, _⟩ => ⟨S128x1024, .f32⟩
  | .local _ .vmem, ⟨12, _⟩ => ⟨S6x1024, .f32⟩
  | .local _ .vmem, ⟨13, _⟩ => ⟨S1x1024, .f32⟩
  | .local _ .vmem, ⟨14, _⟩ => ⟨S128x1024, .fp8e4m3⟩
  | .local _ .vmem, ⟨15, _⟩ => ⟨S128x1024, .fp8e4m3⟩
  | .local _ .vmem, ⟨16, _⟩ => ⟨S128x8, .f32⟩
  | .local _ .vmem, ⟨17, _⟩ => ⟨S128x8, .f32⟩
  | .local _ .vmem, ⟨18, _⟩ => ⟨S6x1024, .i8⟩
  | .local _ .vmem, ⟨19, _⟩ => ⟨S6x1, .f32⟩
  | .local _ .vmem, ⟨20, _⟩ => ⟨S4096x1024, .bf16⟩
  | .local _ .vmem, ⟨21, _⟩ => ⟨S8x1024, .f32⟩
  | .local _ .vmem, ⟨22, _⟩ => ⟨S1x1024, .f32⟩
  | .local _ .smem, ⟨0, _⟩ => ⟨S6, .i32⟩
  | .local _ .smem, ⟨1, _⟩ => ⟨S32x8, .f32⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_arg8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg14_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![12], ![false]⟩

abbrev pre0 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v28 : Index := Scalar.indexCast v16
  ![v28.toNat]
def k0_off2 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v293 : Index := Scalar.indexCast v16
  let c0_75 : Index := 0#32
  ![v293.toNat, 0]
def k0_cond2 (i : grid0.Coords) (v29 : BitVec 32) : BitVec 1 :=
  let arg0 : BitVec 32 := BitVec.ofNat 32 (i 0).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c128_i32 : BitVec 32 := 128#32
  let v27 : BitVec 32 := Scalar.muli v26 c128_i32
  let v30 : BitVec 32 := Scalar.subi v29 v27
  let c0_i32_12 : BitVec 32 := 0#32
  let v34 : BitVec 1 := Scalar.cmpi .sle v30 c0_i32_12
  let v35 : BitVec 32 := Scalar.extui v34
  let c0_i32_13 : BitVec 32 := 0#32
  let v36 : BitVec 1 := Scalar.cmpi .ne v35 c0_i32_13
  v36

def k0_cond3 (i : grid0.Coords) (v29 : BitVec 32) : BitVec 1 :=
  let arg0 : BitVec 32 := BitVec.ofNat 32 (i 0).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c128_i32 : BitVec 32 := 128#32
  let v27 : BitVec 32 := Scalar.muli v26 c128_i32
  let v30 : BitVec 32 := Scalar.subi v29 v27
  let c0_i32_14 : BitVec 32 := 0#32
  let v37 : BitVec 1 := Scalar.cmpi .sgt v30 c0_i32_14
  let v38 : BitVec 32 := Scalar.extui v37
  let c0_i32_15 : BitVec 32 := 0#32
  let v39 : BitVec 1 := Scalar.cmpi .ne v38 c0_i32_15
  v39

def k0_cond4 (i : grid0.Coords) : BitVec 1 :=
  let arg0 : BitVec 32 := BitVec.ofNat 32 (i 0).val
  let c11_i32 : BitVec 32 := 11#32
  let v40 : BitVec 1 := Scalar.cmpi .eq arg0 c11_i32
  let v41 : BitVec 32 := Scalar.extui v40
  let c0_i32_16 : BitVec 32 := 0#32
  let v42 : BitVec 1 := Scalar.cmpi .ne v41 c0_i32_16
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S32x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S6x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1024 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S6x1024 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S6x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S6x256x1024 : Shape := ⟨3, ![6, 256, 1024]⟩
abbrev S6x256x4096 : Shape := ⟨3, ![6, 256, 4096]⟩
abbrev S6x256x32 : Shape := ⟨3, ![6, 256, 32]⟩
abbrev S4096x1024 : Shape := ⟨2, ![4096, 1024]⟩
abbrev S32x8 : Shape := ⟨2, ![32, 8]⟩
abbrev S1024 : Shape := ⟨1, ![1024]⟩
abbrev S6 : Shape := ⟨1, ![6]⟩
abbrev S1536x32x1 : Shape := ⟨3, ![1536, 32, 1]⟩
abbrev S1536x32x128 : Shape := ⟨3, ![1536, 32, 128]⟩
abbrev S1536x4096 : Shape := ⟨2, ![1536, 4096]⟩
abbrev S32x1x8x1 : Shape := ⟨4, ![32, 1, 8, 1]⟩
abbrev S32x128x8x128 : Shape := ⟨4, ![32, 128, 8, 128]⟩
abbrev S256 : Shape := ⟨1, ![256]⟩
abbrev S1x256 : Shape := ⟨2, ![1, 256]⟩
abbrev S6x1 : Shape := ⟨2, ![6, 1]⟩
abbrev S6x256 : Shape := ⟨2, ![6, 256]⟩
abbrev S1536x1 : Shape := ⟨2, ![1536, 1]⟩
abbrev S1536x1024 : Shape := ⟨2, ![1536, 1024]⟩
abbrev S1x1024 : Shape := ⟨2, ![1, 1024]⟩
abbrev S6x1024 : Shape := ⟨2, ![6, 1024]⟩
abbrev S1536x8 : Shape := ⟨2, ![1536, 8]⟩
abbrev S1536 : Shape := ⟨1, ![1536]⟩
abbrev S1536x8x128 : Shape := ⟨3, ![1536, 8, 128]⟩
abbrev S1536x8x1 : Shape := ⟨3, ![1536, 8, 1]⟩
abbrev S1x1x253 : Shape := ⟨3, ![1, 1, 253]⟩
abbrev S1536x8x253 : Shape := ⟨3, ![1536, 8, 253]⟩

abbrev nBuf : Space → Nat
  | .hbm => 39
  | .vmem => 17
  | .smem => 0
  | _ => 0

abbrev bufTy : (tb : Table) → Fin (tcTables nBuf tb) → BufTy
  | .hbm, ⟨0, _⟩ => ⟨S6x256x1024, .bf16⟩
  | .hbm, ⟨1, _⟩ => ⟨S6x256x4096, .fp8e4m3⟩
  | .hbm, ⟨2, _⟩ => ⟨S6x256x32, .f32⟩
  | .hbm, ⟨3, _⟩ => ⟨S4096x1024, .fp8e4m3⟩
  | .hbm, ⟨4, _⟩ => ⟨S32x8, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S6, .i32⟩
  | .hbm, ⟨9, _⟩ => ⟨S1536x32x1, .f32⟩
  | .hbm, ⟨10, _⟩ => ⟨S1536x32x1, .bf16⟩
  | .hbm, ⟨11, _⟩ => ⟨S1536x32x128, .bf16⟩
  | .hbm, ⟨12, _⟩ => ⟨S1536x4096, .bf16⟩
  | .hbm, ⟨13, _⟩ => ⟨S32x8, .bf16⟩
  | .hbm, ⟨14, _⟩ => ⟨S32x1x8x1, .bf16⟩
  | .hbm, ⟨15, _⟩ => ⟨S32x128x8x128, .bf16⟩
  | .hbm, ⟨16, _⟩ => ⟨S4096x1024, .bf16⟩
  | .hbm, ⟨17, _⟩ => ⟨S256, .i32⟩
  | .hbm, ⟨18, _⟩ => ⟨S1x256, .i32⟩
  | .hbm, ⟨19, _⟩ => ⟨S6x1, .i32⟩
  | .hbm, ⟨20, _⟩ => ⟨S6x256, .i32⟩
  | .hbm, ⟨21, _⟩ => ⟨S6x256, .i32⟩
  | .hbm, ⟨22, _⟩ => ⟨S6x256, .i1⟩
  | .hbm, ⟨23, _⟩ => ⟨S1536x1, .i1⟩
  | .hbm, ⟨24, _⟩ => ⟨S1536x1, .i32⟩
  | .hbm, ⟨25, _⟩ => ⟨S1536x1024, .bf16⟩
  | .hbm, ⟨26, _⟩ => ⟨S1536x4096, .fp8e4m3⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S6, .f32⟩
  | .hbm, ⟨31, _⟩ => ⟨S6x1, .f32⟩
  | .hbm, ⟨32, _⟩ => ⟨S1536x1024, .f32⟩
  | .hbm, ⟨33, _⟩ => ⟨S6x1024, .f32⟩
  | .hbm, ⟨34, _⟩ => ⟨S1x1024, .f32⟩
  | .hbm, ⟨35, _⟩ => ⟨S1536x1024, .fp8e4m3⟩
  | .hbm, ⟨36, _⟩ => ⟨S1536x8, .f32⟩
  | .hbm, ⟨37, _⟩ => ⟨S6x1024, .i8⟩
  | .hbm, ⟨38, _⟩ => ⟨S6x1, .f32⟩
  | .local _ .vmem, ⟨0, _⟩ => ⟨S1536x1024, .bf16⟩
  | .local _ .vmem, ⟨1, _⟩ => ⟨S1536x4096, .fp8e4m3⟩
  | .local _ .vmem, ⟨2, _⟩ => ⟨S1536x4096, .bf16⟩
  | .local _ .vmem, ⟨3, _⟩ => ⟨S4096x1024, .fp8e4m3⟩
  | .local _ .vmem, ⟨4, _⟩ => ⟨S4096x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1536x1, .i32⟩
  | .local _ .vmem, ⟨9, _⟩ => ⟨S6x1, .f32⟩
  | .local _ .vmem, ⟨10, _⟩ => ⟨S1536x1024, .f32⟩
  | .local _ .vmem, ⟨11, _⟩ => ⟨S6x1024, .f32⟩
  | .local _ .vmem, ⟨12, _⟩ => ⟨S1x1024, .f32⟩
  | .local _ .vmem, ⟨13, _⟩ => ⟨S1536x1024, .fp8e4m3⟩
  | .local _ .vmem, ⟨14, _⟩ => ⟨S1536x8, .f32⟩
  | .local _ .vmem, ⟨15, _⟩ => ⟨S6x1024, .i8⟩
  | .local _ .vmem, ⟨16, _⟩ => ⟨S6x1, .f32⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev main_v23_6 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S1536x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1536x1024 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1536x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6x1024 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S6x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.BitsRegions.lean ====
/-
  The kernel's body cut at its four conditional regions: what the first grid step does (`initProg`), what a tile with no
  valid row does (`skipProg`), what a tile with valid rows does (`tileProg`), what the last grid step does (`lastProg`).
  Each is the printed region's skeleton; `part95_eq` and `body_eq` say the printed body is the four under their conditions.
-/
module

public import proofs.«01_k».proof.Proof.Gen.Kernel.Launch
public import proofs.«01_k».proof.Proof.Gen.Kernel.Skeleton
public import Idealize.ShloMosaic.Lib.Pipeline.Frame

@[expose] public section

set_option maxRecDepth 65536

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

/-- A memref's buffer on core `c`, held at share `q` with contents `f`. -/
abbrev atq (c : Dev nD) (q : PosShare TreeShare) {sp : Space} {S : Shape} {e : EltTy} (M : Memref sig .tc sp S e) (f : Buf (Elt F) (M.view.loc (c : Thread nD τ))) : sProp 𝕄 :=
  M.view.loc (c : Thread nD τ) ↦[M.view.set]{q} f

/-- A memref's buffer on core `c`, held whole with contents `f`. -/
abbrev at_ (c : Dev nD) {sp : Space} {S : Shape} {e : EltTy} (M : Memref sig .tc sp S e) (f : Buf (Elt F) (M.view.loc (c : Thread nD τ))) : sProp 𝕄 :=
  atq c fullShare M f

variable (i : grid0.Coords) (arg1 : Memref sig .tc .smem S6 .i32) (harg1 : arg1.IsWhole) (arg2 : Memref sig .tc .vmem S128x1024 .bf16) (harg2 : arg2.IsWhole) (arg3 : Memref sig .tc .vmem S128x4096 .fp8e4m3) (harg3 : arg3.IsWhole) (arg4 : Memref sig .tc .vmem S128x32 .f32) (harg4 : arg4.IsWhole) (arg5 : Memref sig .tc .vmem S4096x1024 .fp8e4m3) (harg5 : arg5.IsWhole) (arg6 : Memref sig .tc .smem S32x8 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S6x1024 .f32) (harg11 : arg11.IsWhole) (arg12 : Memref sig .tc .vmem S1x1024 .f32) (harg12 : arg12.IsWhole) (arg13 : Memref sig .tc .vmem S128x1024 .fp8e4m3) (harg13 : arg13.IsWhole) (arg14 : Memref sig .tc .vmem S128x8 .f32) (harg14 : arg14.IsWhole) (arg15 : Memref sig .tc .vmem S6x1024 .i8) (harg15 : arg15.IsWhole) (arg16 : Memref sig .tc .vmem S6x1 .f32) (harg16 : arg16.IsWhole) (arg17 : Memref sig .tc .vmem S4096x1024 .bf16) (harg17 : arg17.IsWhole) (arg18 : Memref sig .tc .vmem S8x1024 .f32) (harg18 : arg18.IsWhole) (arg19 : Memref sig .tc .vmem S1x1024 .f32) (harg19 : arg19.IsWhole)

/-- The first grid step: both accumulators zeroed and the weight dequantised block by block. -/
def initProg : Prog (TpuEff nD τ sig (Elt F) Λ₀ .tc) PUnit := do
  k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let v2099 : FVec F S128x128 .bf16 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v2131, v2133⟩ : Σ' (v2131 : FVec F S128x128 .bf16), F .bf16 ← k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2099
  let v2167 : FVec F S128x128 .bf16 ← k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2131 v2133
  k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2167
  let v2234 : FVec F S128x128 .bf16 ← k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v2266, v2268⟩ : Σ' (v2266 : FVec F S128x128 .bf16), F .bf16 ← k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2234
  let v2302 : FVec F S128x128 .bf16 ← k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2266 v2268
  k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2302
  let v2337 : Vec F S128x128 .fp8e4m3 ← Prog.lift (.load arg5 (Rect.unit (s := S4096x1024) ![3968, 768] S128x128.size inb_S4096x1024_S128x128_3968_768).toLoadRect (View.loadsAt_vmem h_S128x128))
  let v2339 : Elt F .f32 ← smemLoad arg6 (Rect.unit (s := S32x8) ![31, 6] S1x1.size inb_S32x8_S1x1_31_6) numel1_S1x1 rfl
  let v2343 : Vec F S128x128 .bf16 ← Prog.lift (.load arg17 (Rect.unit (s := S4096x1024) ![3968, 768] S128x128.size inb_S4096x1024_S128x128_3968_768).toLoadRect (View.loadsAt_vmem h_S128x128))
  Prog.lift (.store arg17 (Rect.unit (s := S4096x1024) ![3968, 768] S128x128.size inb_S4096x1024_S128x128_3968_768) (k0_pay444 v2337 v2339) Finset.univ (View.stores_vmem h_S128x128 (harg17.storeExact_slice rfl _ packedbf16_S4096x1024_S128x128_3968_768) (fun _ => rfl)) (.inl rfl))
  let v2346 : Vec F S128x128 .fp8e4m3 ← Prog.lift (.load arg5 (Rect.unit (s := S4096x1024) ![3968, 896] S128x128.size inb_S4096x1024_S128x128_3968_896).toLoadRect (View.loadsAt_vmem h_S128x128))
  let v2348 : Elt F .f32 ← smemLoad arg6 (Rect.unit (s := S32x8) ![31, 7] S1x1.size inb_S32x8_S1x1_31_7) numel1_S1x1 rfl
  let v2352 : Vec F S128x128 .bf16 ← Prog.lift (.load arg17 (Rect.unit (s := S4096x1024) ![3968, 896] S128x128.size inb_S4096x1024_S128x128_3968_896).toLoadRect (View.loadsAt_vmem h_S128x128))
  Prog.lift (.store arg17 (Rect.unit (s := S4096x1024) ![3968, 896] S128x128.size inb_S4096x1024_S128x128_3968_896) (k0_pay445 v2346 v2348) Finset.univ (View.stores_vmem h_S128x128 (harg17.storeExact_slice rfl _ packedbf16_S4096x1024_S128x128_3968_896) (fun _ => rfl)) (.inl rfl))
  pure ⟨⟩

/-- The same with what comes after it. -/
def initThen{α : Type} (k : PUnit.{1} → Prog (TpuEff nD τ sig (Elt F) Λ₀ .tc) α) : Prog (TpuEff nD τ sig (Elt F) Λ₀ .tc) α := do
  k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let v2099 : FVec F S128x128 .bf16 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v2131, v2133⟩ : Σ' (v2131 : FVec F S128x128 .bf16), F .bf16 ← k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2099
  let v2167 : FVec F S128x128 .bf16 ← k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2131 v2133
  k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2167
  let v2234 : FVec F S128x128 .bf16 ← k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v2266, v2268⟩ : Σ' (v2266 : FVec F S128x128 .bf16), F .bf16 ← k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2234
  let v2302 : FVec F S128x128 .bf16 ← k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2266 v2268
  k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2302
  let v2337 : Vec F S128x128 .fp8e4m3 ← Prog.lift (.load arg5 (Rect.unit (s := S4096x1024) ![3968, 768] S128x128.size inb_S4096x1024_S128x128_3968_768).toLoadRect (View.loadsAt_vmem h_S128x128))
  let v2339 : Elt F .f32 ← smemLoad arg6 (Rect.unit (s := S32x8) ![31, 6] S1x1.size inb_S32x8_S1x1_31_6) numel1_S1x1 rfl
  let v2343 : Vec F S128x128 .bf16 ← Prog.lift (.load arg17 (Rect.unit (s := S4096x1024) ![3968, 768] S128x128.size inb_S4096x1024_S128x128_3968_768).toLoadRect (View.loadsAt_vmem h_S128x128))
  Prog.lift (.store arg17 (Rect.unit (s := S4096x1024) ![3968, 768] S128x128.size inb_S4096x1024_S128x128_3968_768) (k0_pay444 v2337 v2339) Finset.univ (View.stores_vmem h_S128x128 (harg17.storeExact_slice rfl _ packedbf16_S4096x1024_S128x128_3968_768) (fun _ => rfl)) (.inl rfl))
  let v2346 : Vec F S128x128 .fp8e4m3 ← Prog.lift (.load arg5 (Rect.unit (s := S4096x1024) ![3968, 896] S128x128.size inb_S4096x1024_S128x128_3968_896).toLoadRect (View.loadsAt_vmem h_S128x128))
  let v2348 : Elt F .f32 ← smemLoad arg6 (Rect.unit (s := S32x8) ![31, 7] S1x1.size inb_S32x8_S1x1_31_7) numel1_S1x1 rfl
  let v2352 : Vec F S128x128 .bf16 ← Prog.lift (.load arg17 (Rect.unit (s := S4096x1024) ![3968, 896] S128x128.size inb_S4096x1024_S128x128_3968_896).toLoadRect (View.loadsAt_vmem h_S128x128))
  Prog.lift (.store arg17 (Rect.unit (s := S4096x1024) ![3968, 896] S128x128.size inb_S4096x1024_S128x128_3968_896) (k0_pay445 v2346 v2348) Finset.univ (View.stores_vmem h_S128x128 (harg17.storeExact_slice rfl _ packedbf16_S4096x1024_S128x128_3968_896) (fun _ => rfl)) (.inl rfl))
  k ⟨⟩

theorem initThen_eq {α : Type} (k : PUnit.{1} → Prog (TpuEff nD τ sig (Elt F) Λ₀ .tc) α) : initThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k = initProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= k := by
  unfold initThen initProg
  simp only [bind_assoc, pure_bind]

/-- A tile with no valid row: its three result blocks filled with constants. -/
def skipProg : Prog (TpuEff nD τ sig (Elt F) Λ₀ .tc) PUnit := do
  let v44 : Vec F S128x1024 .f32 ← Prog.lift (.load arg10 (Rect.unit (s := S128x1024) ![0, 0] S128x1024.size inb_S128x1024_S128x1024_0_0).toLoadRect (View.loadsAt_vmem h_S128x1024))
  Prog.lift (.store arg10 (Rect.unit (s := S128x1024) ![0, 0] S128x1024.size inb_S128x1024_S128x1024_0_0) (k0_pay446 (F := F)) Finset.univ (View.stores_vmem_bits_univ h_S128x1024 rfl) (.inl rfl))
  let v46 : Vec F S128x1024 .fp8e4m3 ← Prog.lift (.load arg13 (Rect.unit (s := S128x1024) ![0, 0] S128x1024.size inb_S128x1024_S128x1024_0_0).toLoadRect (View.loadsAt_vmem h_S128x1024))
  Prog.lift (.store arg13 (Rect.unit (s := S128x1024) ![0, 0] S128x1024.size inb_S128x1024_S128x1024_0_0) (k0_pay447 (F := F)) Finset.univ (View.stores_vmem h_S128x1024 (harg13.storeExact_slice rfl _ packedfp8e4m3_S128x1024_S128x1024_0_0) (fun _ => rfl)) (.inl rfl))
  let v48 : Vec F S128x8 .f32 ← Prog.lift (.load arg14 (Rect.unit (s := S128x8) ![0, 0] S128x8.size inb_S128x8_S128x8_0_0).toLoadRect (View.loadsAt_vmem h_S128x8))
  Prog.lift (.store arg14 (Rect.unit (s := S128x8) ![0, 0] S128x8.size inb_S128x8_S128x8_0_0) (k0_pay448 (F := F)) Finset.univ (View.stores_vmem_bits_univ h_S128x8 rfl) (.inl rfl))
  pure ⟨⟩

/-- The same with what comes after it. -/
def skipThen{α : Type} (k : PUnit.{1} → Prog (TpuEff nD τ sig (Elt F) Λ₀ .tc) α) : Prog (TpuEff nD τ sig (Elt F) Λ₀ .tc) α := do
  let v44 : Vec F S128x1024 .f32 ← Prog.lift (.load arg10 (Rect.unit (s := S128x1024) ![0, 0] S128x1024.size inb_S128x1024_S128x1024_0_0).toLoadRect (View.loadsAt_vmem h_S128x1024))
  Prog.lift (.store arg10 (Rect.unit (s := S128x1024) ![0, 0] S128x1024.size inb_S128x1024_S128x1024_0_0) (k0_pay446 (F := F)) Finset.univ (View.stores_vmem_bits_univ h_S128x1024 rfl) (.inl rfl))
  let v46 : Vec F S128x1024 .fp8e4m3 ← Prog.lift (.load arg13 (Rect.unit (s := S128x1024) ![0, 0] S128x1024.size inb_S128x1024_S128x1024_0_0).toLoadRect (View.loadsAt_vmem h_S128x1024))
  Prog.lift (.store arg13 (Rect.unit (s := S128x1024) ![0, 0] S128x1024.size inb_S128x1024_S128x1024_0_0) (k0_pay447 (F := F)) Finset.univ (View.stores_vmem h_S128x1024 (harg13.storeExact_slice rfl _ packedfp8e4m3_S128x1024_S128x1024_0_0) (fun _ => rfl)) (.inl rfl))
  let v48 : Vec F S128x8 .f32 ← Prog.lift (.load arg14 (Rect.unit (s := S128x8) ![0, 0] S128x8.size inb_S128x8_S128x8_0_0).toLoadRect (View.loadsAt_vmem h_S128x8))
  Prog.lift (.store arg14 (Rect.unit (s := S128x8) ![0, 0] S128x8.size inb_S128x8_S128x8_0_0) (k0_pay448 (F := F)) Finset.univ (View.stores_vmem_bits_univ h_S128x8 rfl) (.inl rfl))
  k ⟨⟩

theorem skipThen_eq {α : Type} (k : PUnit.{1} → Prog (TpuEff nD τ sig (Elt F) Λ₀ .tc) α) : skipThen arg10 arg13 harg13 arg14 k = skipProg arg10 arg13 harg13 arg14 >>= k := by
  unfold skipThen skipProg
  simp only [bind_assoc, pure_bind]

/-- A tile with `v30 > 0` valid rows. -/
def tileProg (v16 v30 : BitVec 32) : Prog (TpuEff nD τ sig (Elt F) Λ₀ .tc) PUnit := do
  let ⟨v45, v51, v57, v63, v69, v75, v81, v84, v86⟩ : Σ' (v45 : FVec F S128x32 .bf16) (v51 : FVec F S128x128 .bf16) (v57 : FVec F S128x128 .bf16) (v63 : FVec F S128x128 .bf16) (v69 : FVec F S128x128 .bf16) (v75 : FVec F S128x128 .bf16) (v81 : FVec F S128x128 .bf16) (v84 : FVec F S128x128 .bf16), FVec F S128x128 .bf16 ← k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v87, v93, v99, v105, v111, v117, v123, v129, v130⟩ : Σ' (v87 : FVec F S128x128 .bf16) (v93 : FVec F S128x128 .bf16) (v99 : FVec F S128x128 .bf16) (v105 : FVec F S128x128 .bf16) (v111 : FVec F S128x128 .bf16) (v117 : FVec F S128x128 .bf16) (v123 : FVec F S128x128 .bf16) (v129 : FVec F S128x128 .bf16), Vec F S128x128 .fp8e4m3 ← k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v45 v84 v86
  let ⟨v135, v141, v147, v153, v159, v165, v171, v174, v176⟩ : Σ' (v135 : FVec F S128x128 .bf16) (v141 : FVec F S128x128 .bf16) (v147 : FVec F S128x128 .bf16) (v153 : FVec F S128x128 .bf16) (v159 : FVec F S128x128 .bf16) (v165 : FVec F S128x128 .bf16) (v171 : FVec F S128x128 .bf16) (v174 : FVec F S128x128 .bf16), FVec F S128x128 .bf16 ← k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v45 v130
  let ⟨v177, v183, v189, v195, v201, v207, v213, v219, v220⟩ : Σ' (v177 : FVec F S128x128 .bf16) (v183 : FVec F S128x128 .bf16) (v189 : FVec F S128x128 .bf16) (v195 : FVec F S128x128 .bf16) (v201 : FVec F S128x128 .bf16) (v207 : FVec F S128x128 .bf16) (v213 : FVec F S128x128 .bf16) (v219 : FVec F S128x128 .bf16), Vec F S128x128 .fp8e4m3 ← k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v45 v174 v176
  let ⟨v248, v251, v263⟩ : Σ' (v248 : FVec F S128x1024 .f32) (v251 : IVec S128x1 1), FVec F S1x1024 .f32 ← k0_part74 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v30 v45 v51 v57 v63 v69 v75 v81 v87 v93 v99 v105 v111 v117 v123 v129 v135 v141 v147 v153 v159 v165 v171 v177 v183 v189 v195 v201 v207 v213 v219 v220
  let ⟨v291, v302, v304⟩ : Σ' (v291 : FVec F S128x1024 .f32) (v302 : FVec F S128x128 .f32), FVec F S128 .f32 ← k0_part75 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v248 v251 v263
  let ⟨v307, v344, v348⟩ : Σ' (v307 : FVec F S128x1 .f32) (v344 : IVec S128x1 32), IVec S128x1 32 ← k0_part76 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v304
  let ⟨v390, v391, v392⟩ : Σ' (v390 : IVec S128x1 32) (v391 : FVec F S128x1 .f32), IVec S128x1 32 ← k0_part77 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v307 v344 v348
  let ⟨v403, v408, v427, v433, v435⟩ : Σ' (v403 : FVec F S128x128 .f32) (v408 : FVec F S128x1 .f32) (v427 : IVec S128x1 32) (v433 : IVec S128x1 1), IVec S128x1 32 ← k0_part78 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v302 v390 v392
  let ⟨v472, v478, v480⟩ : Σ' (v472 : IVec S128x1 32) (v478 : IVec S128x1 1), IVec S128x1 32 ← k0_part79 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v408 v427 v433 v435
  let ⟨v492, v504, v509, v519, v521, c23_i32_149⟩ : Σ' (v492 : FVec F S128x1 .f32) (v504 : FVec F S128x128 .f32) (v509 : FVec F S128x1 .f32) (v519 : IVec S128x1 32) (v521 : IVec S128x1 32), BitVec 32 ← k0_part80 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v403 v472 v478 v480
  let ⟨v564, v566, c23_i32_164⟩ : Σ' (v564 : IVec S128x1 32) (v566 : IVec S128x1 32), BitVec 32 ← k0_part81 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v509 v519 v521 c23_i32_149
  let ⟨v593, v605, v608, v609⟩ : Σ' (v593 : FVec F S128x1 .f32) (v605 : FVec F S128x128 .f32) (v608 : FVec F S128x1 .f32), FVec F S128x1 .f32 ← k0_part82 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v504 v509 v564 v566 c23_i32_164
  let ⟨v610, v647, v653, c8_i32_196⟩ : Σ' (v610 : FVec F S128x1 .f32) (v647 : IVec S128x1 32) (v653 : IVec S128x1 1), BitVec 32 ← k0_part83 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v608 v609
  let ⟨v694, v698⟩ : Σ' (v694 : FVec F S128x1 .f32), FVec F S128x128 .f32 ← k0_part84 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v610 v647 v653 c8_i32_196
  let ⟨v706, v711, v739, v740⟩ : Σ' (v706 : FVec F S128x128 .f32) (v711 : FVec F S128x1 .f32) (v739 : IVec S128x1 32), IVec S128x1 32 ← k0_part85 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v605 v698
  let ⟨v784, v785⟩ : Σ' (v784 : IVec S128x1 32), IVec S128x1 32 ← k0_part86 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v711 v739 v740
  let ⟨v795, v807, v812, v822, v827⟩ : Σ' (v795 : FVec F S128x1 .f32) (v807 : FVec F S128x128 .f32) (v812 : FVec F S128x1 .f32) (v822 : IVec S128x1 32), FVec F S128x1 .f32 ← k0_part87 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v706 v784 v785
  let ⟨v867, v872⟩ : Σ' (v867 : IVec S128x1 32), FVec F S128x1 .f32 ← k0_part88 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v812 v822 v827
  let ⟨v896, v908, v913, v914⟩ : Σ' (v896 : FVec F S128x1 .f32) (v908 : FVec F S128x128 .f32) (v913 : FVec F S128x1 .f32), IVec S128x1 32 ← k0_part89 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v807 v812 v867 v872
  let v959 : IVec S128x1 32 ← k0_part90 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v913 v914
  let ⟨v997, v1002, cst_323, cst_324⟩ : Σ' (v997 : FVec F S128x1 .f32) (v1002 : FVec F S128x128 .f32) (cst_323 : F .f32), F .f32 ← k0_part91 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v908 v913 v959
  let ⟨v1009, v1014, v1042, v1044, v1045⟩ : Σ' (v1009 : FVec F S128x128 .f32) (v1014 : FVec F S128x1 .f32) (v1042 : IVec S128x1 32) (v1044 : IVec S128x1 32), IVec S128x1 32 ← k0_part92 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v1002 cst_323 cst_324
  let ⟨v1089, v1090⟩ : Σ' (v1089 : IVec S128x1 32), IVec S128x1 32 ← k0_part93 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1014 v1042 v1044 v1045
  let v1109 : Vec F S128x128 .fp8e4m3 ← Prog.lift (.load arg13 (Rect.unit (s := S128x1024) ![0, 896] S128x128.size inb_S128x1024_S128x128_0_896).toLoadRect (View.loadsAt_vmem h_S128x128))
  Prog.lift (.store arg13 (Rect.unit (s := S128x1024) ![0, 896] S128x128.size inb_S128x1024_S128x128_0_896) (k0_pay2 v1009 v1089 v1090) Finset.univ (View.stores_vmem h_S128x128 (harg13.storeExact_slice rfl _ packedfp8e4m3_S128x1024_S128x128_0_896) (fun _ => rfl)) (.inl rfl))
  let v1111 : Vec F S128x8 .f32 ← Prog.lift (.load arg14 (Rect.unit (s := S128x8) ![0, 0] S128x8.size inb_S128x8_S128x8_0_0).toLoadRect (View.loadsAt_vmem h_S128x8))
  Prog.lift (.store arg14 (Rect.unit (s := S128x8) ![0, 0] S128x8.size inb_S128x8_S128x8_0_0) (k0_pay3 v391 v492 v593 v694 v795 v896 v997 v1089 v1090) Finset.univ (View.stores_vmem_bits_univ h_S128x8 rfl) (.inl rfl))
  pure ⟨⟩

/-- The same with what comes after it. -/
def tileThen{α : Type} (v16 v30 : BitVec 32) (k : PUnit.{1} → Prog (TpuEff nD τ sig (Elt F) Λ₀ .tc) α) : Prog (TpuEff nD τ sig (Elt F) Λ₀ .tc) α := do
  let ⟨v45, v51, v57, v63, v69, v75, v81, v84, v86⟩ : Σ' (v45 : FVec F S128x32 .bf16) (v51 : FVec F S128x128 .bf16) (v57 : FVec F S128x128 .bf16) (v63 : FVec F S128x128 .bf16) (v69 : FVec F S128x128 .bf16) (v75 : FVec F S128x128 .bf16) (v81 : FVec F S128x128 .bf16) (v84 : FVec F S128x128 .bf16), FVec F S128x128 .bf16 ← k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v87, v93, v99, v105, v111, v117, v123, v129, v130⟩ : Σ' (v87 : FVec F S128x128 .bf16) (v93 : FVec F S128x128 .bf16) (v99 : FVec F S128x128 .bf16) (v105 : FVec F S128x128 .bf16) (v111 : FVec F S128x128 .bf16) (v117 : FVec F S128x128 .bf16) (v123 : FVec F S128x128 .bf16) (v129 : FVec F S128x128 .bf16), Vec F S128x128 .fp8e4m3 ← k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v45 v84 v86
  let ⟨v135, v141, v147, v153, v159, v165, v171, v174, v176⟩ : Σ' (v135 : FVec F S128x128 .bf16) (v141 : FVec F S128x128 .bf16) (v147 : FVec F S128x128 .bf16) (v153 : FVec F S128x128 .bf16) (v159 : FVec F S128x128 .bf16) (v165 : FVec F S128x128 .bf16) (v171 : FVec F S128x128 .bf16) (v174 : FVec F S128x128 .bf16), FVec F S128x128 .bf16 ← k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v45 v130
  let ⟨v177, v183, v189, v195, v201, v207, v213, v219, v220⟩ : Σ' (v177 : FVec F S128x128 .bf16) (v183 : FVec F S128x128 .bf16) (v189 : FVec F S128x128 .bf16) (v195 : FVec F S128x128 .bf16) (v201 : FVec F S128x128 .bf16) (v207 : FVec F S128x128 .bf16) (v213 : FVec F S128x128 .bf16) (v219 : FVec F S128x128 .bf16), Vec F S128x128 .fp8e4m3 ← k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v45 v174 v176
  let ⟨v248, v251, v263⟩ : Σ' (v248 : FVec F S128x1024 .f32) (v251 : IVec S128x1 1), FVec F S1x1024 .f32 ← k0_part74 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v30 v45 v51 v57 v63 v69 v75 v81 v87 v93 v99 v105 v111 v117 v123 v129 v135 v141 v147 v153 v159 v165 v171 v177 v183 v189 v195 v201 v207 v213 v219 v220
  let ⟨v291, v302, v304⟩ : Σ' (v291 : FVec F S128x1024 .f32) (v302 : FVec F S128x128 .f32), FVec F S128 .f32 ← k0_part75 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v248 v251 v263
  let ⟨v307, v344, v348⟩ : Σ' (v307 : FVec F S128x1 .f32) (v344 : IVec S128x1 32), IVec S128x1 32 ← k0_part76 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v304
  let ⟨v390, v391, v392⟩ : Σ' (v390 : IVec S128x1 32) (v391 : FVec F S128x1 .f32), IVec S128x1 32 ← k0_part77 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v307 v344 v348
  let ⟨v403, v408, v427, v433, v435⟩ : Σ' (v403 : FVec F S128x128 .f32) (v408 : FVec F S128x1 .f32) (v427 : IVec S128x1 32) (v433 : IVec S128x1 1), IVec S128x1 32 ← k0_part78 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v302 v390 v392
  let ⟨v472, v478, v480⟩ : Σ' (v472 : IVec S128x1 32) (v478 : IVec S128x1 1), IVec S128x1 32 ← k0_part79 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v408 v427 v433 v435
  let ⟨v492, v504, v509, v519, v521, c23_i32_149⟩ : Σ' (v492 : FVec F S128x1 .f32) (v504 : FVec F S128x128 .f32) (v509 : FVec F S128x1 .f32) (v519 : IVec S128x1 32) (v521 : IVec S128x1 32), BitVec 32 ← k0_part80 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v403 v472 v478 v480
  let ⟨v564, v566, c23_i32_164⟩ : Σ' (v564 : IVec S128x1 32) (v566 : IVec S128x1 32), BitVec 32 ← k0_part81 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v509 v519 v521 c23_i32_149
  let ⟨v593, v605, v608, v609⟩ : Σ' (v593 : FVec F S128x1 .f32) (v605 : FVec F S128x128 .f32) (v608 : FVec F S128x1 .f32), FVec F S128x1 .f32 ← k0_part82 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v504 v509 v564 v566 c23_i32_164
  let ⟨v610, v647, v653, c8_i32_196⟩ : Σ' (v610 : FVec F S128x1 .f32) (v647 : IVec S128x1 32) (v653 : IVec S128x1 1), BitVec 32 ← k0_part83 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v608 v609
  let ⟨v694, v698⟩ : Σ' (v694 : FVec F S128x1 .f32), FVec F S128x128 .f32 ← k0_part84 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v610 v647 v653 c8_i32_196
  let ⟨v706, v711, v739, v740⟩ : Σ' (v706 : FVec F S128x128 .f32) (v711 : FVec F S128x1 .f32) (v739 : IVec S128x1 32), IVec S128x1 32 ← k0_part85 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v605 v698
  let ⟨v784, v785⟩ : Σ' (v784 : IVec S128x1 32), IVec S128x1 32 ← k0_part86 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v711 v739 v740
  let ⟨v795, v807, v812, v822, v827⟩ : Σ' (v795 : FVec F S128x1 .f32) (v807 : FVec F S128x128 .f32) (v812 : FVec F S128x1 .f32) (v822 : IVec S128x1 32), FVec F S128x1 .f32 ← k0_part87 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v706 v784 v785
  let ⟨v867, v872⟩ : Σ' (v867 : IVec S128x1 32), FVec F S128x1 .f32 ← k0_part88 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v812 v822 v827
  let ⟨v896, v908, v913, v914⟩ : Σ' (v896 : FVec F S128x1 .f32) (v908 : FVec F S128x128 .f32) (v913 : FVec F S128x1 .f32), IVec S128x1 32 ← k0_part89 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v807 v812 v867 v872
  let v959 : IVec S128x1 32 ← k0_part90 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v913 v914
  let ⟨v997, v1002, cst_323, cst_324⟩ : Σ' (v997 : FVec F S128x1 .f32) (v1002 : FVec F S128x128 .f32) (cst_323 : F .f32), F .f32 ← k0_part91 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v908 v913 v959
  let ⟨v1009, v1014, v1042, v1044, v1045⟩ : Σ' (v1009 : FVec F S128x128 .f32) (v1014 : FVec F S128x1 .f32) (v1042 : IVec S128x1 32) (v1044 : IVec S128x1 32), IVec S128x1 32 ← k0_part92 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v1002 cst_323 cst_324
  let ⟨v1089, v1090⟩ : Σ' (v1089 : IVec S128x1 32), IVec S128x1 32 ← k0_part93 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1014 v1042 v1044 v1045
  let v1109 : Vec F S128x128 .fp8e4m3 ← Prog.lift (.load arg13 (Rect.unit (s := S128x1024) ![0, 896] S128x128.size inb_S128x1024_S128x128_0_896).toLoadRect (View.loadsAt_vmem h_S128x128))
  Prog.lift (.store arg13 (Rect.unit (s := S128x1024) ![0, 896] S128x128.size inb_S128x1024_S128x128_0_896) (k0_pay2 v1009 v1089 v1090) Finset.univ (View.stores_vmem h_S128x128 (harg13.storeExact_slice rfl _ packedfp8e4m3_S128x1024_S128x128_0_896) (fun _ => rfl)) (.inl rfl))
  let v1111 : Vec F S128x8 .f32 ← Prog.lift (.load arg14 (Rect.unit (s := S128x8) ![0, 0] S128x8.size inb_S128x8_S128x8_0_0).toLoadRect (View.loadsAt_vmem h_S128x8))
  Prog.lift (.store arg14 (Rect.unit (s := S128x8) ![0, 0] S128x8.size inb_S128x8_S128x8_0_0) (k0_pay3 v391 v492 v593 v694 v795 v896 v997 v1089 v1090) Finset.univ (View.stores_vmem_bits_univ h_S128x8 rfl) (.inl rfl))
  k ⟨⟩

theorem tileThen_eq {α : Type} (v16 v30 : BitVec 32) (k : PUnit.{1} → Prog (TpuEff nD τ sig (Elt F) Λ₀ .tc) α) : tileThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v30 k = tileProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v30 >>= k := by
  unfold tileThen tileProg
  simp only [bind_assoc, pure_bind]

/-- The last grid step: the maximum, the means and their quantisation. -/
def lastProg : Prog (TpuEff nD τ sig (Elt F) Λ₀ .tc) PUnit := do
  let v82 : FVec F S6x1 .f32 ← k0_part94 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let v83 : Vec F S6x1024 .f32 ← Prog.lift (.load arg18 (Rect.unit (s := S8x1024) ![0, 0] S6x1024.size inb_S8x1024_S6x1024_0_0).toLoadRect (View.loadsAt_vmem h_S6x1024))
  let v86 : Vec F S6x1024 .f32 ← Prog.lift (.load arg11 (Rect.unit (s := S6x1024) ![0, 0] S6x1024.size inb_S6x1024_S6x1024_0_0).toLoadRect (View.loadsAt_vmem h_S6x1024))
  Prog.lift (.store arg11 (Rect.unit (s := S6x1024) ![0, 0] S6x1024.size inb_S6x1024_S6x1024_0_0) (k0_pay4 v82 v83) Finset.univ (View.stores_vmem_bits_univ h_S6x1024 rfl) (.inl rfl))
  let v104 : Vec F S6x1 .f32 ← Prog.lift (.load arg16 (Rect.unit (s := S6x1) ![0, 0] S6x1.size inb_S6x1_S6x1_0_0).toLoadRect (View.loadsAt_vmem h_S6x1))
  Prog.lift (.store arg16 (Rect.unit (s := S6x1) ![0, 0] S6x1.size inb_S6x1_S6x1_0_0) (k0_pay6 v82 v83) Finset.univ (View.stores_vmem_bits_univ h_S6x1 rfl) (.inl rfl))
  let v113 : Vec F S6x1024 .i8 ← Prog.lift (.load arg15 (Rect.unit (s := S6x1024) ![0, 0] S6x1024.size inb_S6x1024_S6x1024_0_0).toLoadRect (View.loadsAt_vmem h_S6x1024))
  Prog.lift (.store arg15 (Rect.unit (s := S6x1024) ![0, 0] S6x1024.size inb_S6x1024_S6x1024_0_0) (k0_pay7 v82 v83) Finset.univ (View.stores_vmem h_S6x1024 (harg15.storeExact_slice rfl _ packedi8_S6x1024_S6x1024_0_0) (fun _ => rfl)) (.inl rfl))
  pure ⟨⟩

/-- The same with what comes after it. -/
def lastThen{α : Type} (k : PUnit.{1} → Prog (TpuEff nD τ sig (Elt F) Λ₀ .tc) α) : Prog (TpuEff nD τ sig (Elt F) Λ₀ .tc) α := do
  let v82 : FVec F S6x1 .f32 ← k0_part94 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let v83 : Vec F S6x1024 .f32 ← Prog.lift (.load arg18 (Rect.unit (s := S8x1024) ![0, 0] S6x1024.size inb_S8x1024_S6x1024_0_0).toLoadRect (View.loadsAt_vmem h_S6x1024))
  let v86 : Vec F S6x1024 .f32 ← Prog.lift (.load arg11 (Rect.unit (s := S6x1024) ![0, 0] S6x1024.size inb_S6x1024_S6x1024_0_0).toLoadRect (View.loadsAt_vmem h_S6x1024))
  Prog.lift (.store arg11 (Rect.unit (s := S6x1024) ![0, 0] S6x1024.size inb_S6x1024_S6x1024_0_0) (k0_pay4 v82 v83) Finset.univ (View.stores_vmem_bits_univ h_S6x1024 rfl) (.inl rfl))
  let v104 : Vec F S6x1 .f32 ← Prog.lift (.load arg16 (Rect.unit (s := S6x1) ![0, 0] S6x1.size inb_S6x1_S6x1_0_0).toLoadRect (View.loadsAt_vmem h_S6x1))
  Prog.lift (.store arg16 (Rect.unit (s := S6x1) ![0, 0] S6x1.size inb_S6x1_S6x1_0_0) (k0_pay6 v82 v83) Finset.univ (View.stores_vmem_bits_univ h_S6x1 rfl) (.inl rfl))
  let v113 : Vec F S6x1024 .i8 ← Prog.lift (.load arg15 (Rect.unit (s := S6x1024) ![0, 0] S6x1024.size inb_S6x1024_S6x1024_0_0).toLoadRect (View.loadsAt_vmem h_S6x1024))
  Prog.lift (.store arg15 (Rect.unit (s := S6x1024) ![0, 0] S6x1024.size inb_S6x1024_S6x1024_0_0) (k0_pay7 v82 v83) Finset.univ (View.stores_vmem h_S6x1024 (harg15.storeExact_slice rfl _ packedi8_S6x1024_S6x1024_0_0) (fun _ => rfl)) (.inl rfl))
  k ⟨⟩

theorem lastThen_eq {α : Type} (k : PUnit.{1} → Prog (TpuEff nD τ sig (Elt F) Λ₀ .tc) α) : lastThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k = lastProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= k := by
  unfold lastThen lastProg
  simp only [bind_assoc, pure_bind]

/-- Whether this is the first grid step, as the body computes it. -/
def firstCond (i : grid0.Coords) : BitVec 1 :=
  Scalar.cmpi .ne (Scalar.extui (Scalar.cmpi .eq (BitVec.ofNat 32 (i 0).val) 0#32) : BitVec 32) 0#32

/-- The first row of the tile within its sequence, as the body computes it. -/
def rowBase (i : grid0.Coords) : BitVec 32 :=
  let arg0 : BitVec 32 := BitVec.ofNat 32 (i 0).val
  let v0 : BitVec 32 := Scalar.divsi arg0 2#32
  let v1 : BitVec 1 := Scalar.cmpi .sgt arg0 0#32
  let v2 : BitVec 32 := Scalar.extui v1
  let v3 : BitVec 1 := Scalar.cmpi .slt arg0 0#32
  let v4 : BitVec 32 := Scalar.extui v3
  let v5 : BitVec 32 := Scalar.subi v2 v4
  let v6 : BitVec 1 := Scalar.cmpi .sgt 2#32 0#32
  let v7 : BitVec 32 := Scalar.extui v6
  let v8 : BitVec 1 := Scalar.cmpi .slt 2#32 0#32
  let v9 : BitVec 32 := Scalar.extui v8
  let v10 : BitVec 32 := Scalar.subi v7 v9
  let v11 : BitVec 1 := Scalar.cmpi .ne v5 v10
  let v12 : BitVec 32 := Scalar.remsi arg0 2#32
  let v13 : BitVec 1 := Scalar.cmpi .ne v12 0#32
  let v14 : BitVec 1 := Scalar.andi v11 v13
  let v15 : BitVec 32 := Scalar.subi v0 1#32
  let v16 : BitVec 32 := Scalar.select v14 v15 v0
  let v17 : BitVec 1 := Scalar.cmpi .eq 2#32 0#32
  let v18 : BitVec 32 := Scalar.select v17 1#32 2#32
  let v19 : BitVec 32 := Scalar.remsi arg0 v18
  let v20 : BitVec 1 := Scalar.cmpi .ne v19 0#32
  let v21 : BitVec 1 := Scalar.cmpi .slt v19 0#32
  let v22 : BitVec 1 := Scalar.cmpi .slt v18 0#32
  let v23 : BitVec 1 := Scalar.xori v21 v22
  let v24 : BitVec 1 := Scalar.andi v23 v20
  let v25 : BitVec 32 := Scalar.addi v19 v18
  let v26 : BitVec 32 := Scalar.select v24 v25 v19
  let v27 : BitVec 32 := Scalar.muli v26 128#32
  v27

/-- The sequence the tile belongs to, as the body computes it. -/
def seqIdx (i : grid0.Coords) : BitVec 32 :=
  let arg0 : BitVec 32 := BitVec.ofNat 32 (i 0).val
  let v0 : BitVec 32 := Scalar.divsi arg0 2#32
  let v1 : BitVec 1 := Scalar.cmpi .sgt arg0 0#32
  let v2 : BitVec 32 := Scalar.extui v1
  let v3 : BitVec 1 := Scalar.cmpi .slt arg0 0#32
  let v4 : BitVec 32 := Scalar.extui v3
  let v5 : BitVec 32 := Scalar.subi v2 v4
  let v6 : BitVec 1 := Scalar.cmpi .sgt 2#32 0#32
  let v7 : BitVec 32 := Scalar.extui v6
  let v8 : BitVec 1 := Scalar.cmpi .slt 2#32 0#32
  let v9 : BitVec 32 := Scalar.extui v8
  let v10 : BitVec 32 := Scalar.subi v7 v9
  let v11 : BitVec 1 := Scalar.cmpi .ne v5 v10
  let v12 : BitVec 32 := Scalar.remsi arg0 2#32
  let v13 : BitVec 1 := Scalar.cmpi .ne v12 0#32
  let v14 : BitVec 1 := Scalar.andi v11 v13
  let v15 : BitVec 32 := Scalar.subi v0 1#32
  let v16 : BitVec 32 := Scalar.select v14 v15 v0
  let v17 : BitVec 1 := Scalar.cmpi .eq 2#32 0#32
  let v18 : BitVec 32 := Scalar.select v17 1#32 2#32
  let v19 : BitVec 32 := Scalar.remsi arg0 v18
  let v20 : BitVec 1 := Scalar.cmpi .ne v19 0#32
  let v21 : BitVec 1 := Scalar.cmpi .slt v19 0#32
  let v22 : BitVec 1 := Scalar.cmpi .slt v18 0#32
  let v23 : BitVec 1 := Scalar.xori v21 v22
  let v24 : BitVec 1 := Scalar.andi v23 v20
  let v25 : BitVec 32 := Scalar.addi v19 v18
  let v26 : BitVec 32 := Scalar.select v24 v25 v19
  let v27 : BitVec 32 := Scalar.muli v26 128#32
  v16

set_option maxHeartbeats 400000 in
theorem part95_eq : k0_part95 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = (do
  let v29 : Elt F .i32 ← smemLoad arg1 (Rect.unit (s := S6) (k0_off1 i) S1.size (k0_off1_inb i)) numel1_S1 rfl
  let rest₂ : PUnit.{1} → _ := fun _ => pure ⟨BitVec.ofNat 32 (i 0).val, seqIdx i, v29, Scalar.subi v29 (rowBase i), Scalar.cmpi .sgt (Scalar.subi v29 (rowBase i)) 0#32⟩
  let rest₁ : PUnit.{1} → _ := fun _ => if _h : k0_cond2 i v29 = 1#1 then skipThen arg10 arg13 harg13 arg14 rest₂ else rest₂ ⟨⟩
  if _h : firstCond i = 1#1 then initThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 rest₁ else rest₁ ⟨⟩) := rfl

set_option maxHeartbeats 400000 in
theorem body_eq : cc0_down_ln_pool (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = (do
  let ⟨arg0, v16, v29, v30, v37⟩ : Σ' (arg0 : BitVec 32) (v16 : BitVec 32) (v29 : Elt F .i32) (v30 : BitVec 32), BitVec 1 ← k0_part95 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let rest : PUnit.{1} → _ := fun _ => if _h : k0_cond4 i = 1#1 then lastThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 pure else pure ⟨⟩
  if _h : k0_cond3 i v29 = 1#1 then tileThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v30 rest else rest ⟨⟩) := rfl

end Cert.Kernel.Hand

end
-- ==== Proof.BitsTile.lean ====
/-
  The tile region run once.
-/
module

public import proofs.«01_k».proof.Proof.BitsRegions
public import Idealize.ShloMosaic.Lib.Pipeline.FrameBody
public import Idealize.ShloMosaic.Lib.Pipeline.Frame
public import Idealize.ShloMosaic.Lib.Tactic
public import Idealize.ShloMosaic.Lib.WordCmp

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (i : grid0.Coords) (arg1 : Memref sig .tc .smem S6 .i32) (harg1 : arg1.IsWhole) (arg2 : Memref sig .tc .vmem S128x1024 .bf16) (harg2 : arg2.IsWhole) (arg3 : Memref sig .tc .vmem S128x4096 .fp8e4m3) (harg3 : arg3.IsWhole) (arg4 : Memref sig .tc .vmem S128x32 .f32) (harg4 : arg4.IsWhole) (arg5 : Memref sig .tc .vmem S4096x1024 .fp8e4m3) (harg5 : arg5.IsWhole) (arg6 : Memref sig .tc .smem S32x8 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S6x1024 .f32) (harg11 : arg11.IsWhole) (arg12 : Memref sig .tc .vmem S1x1024 .f32) (harg12 : arg12.IsWhole) (arg13 : Memref sig .tc .vmem S128x1024 .fp8e4m3) (harg13 : arg13.IsWhole) (arg14 : Memref sig .tc .vmem S128x8 .f32) (harg14 : arg14.IsWhole) (arg15 : Memref sig .tc .vmem S6x1024 .i8) (harg15 : arg15.IsWhole) (arg16 : Memref sig .tc .vmem S6x1 .f32) (harg16 : arg16.IsWhole) (arg17 : Memref sig .tc .vmem S4096x1024 .bf16) (harg17 : arg17.IsWhole) (arg18 : Memref sig .tc .vmem S8x1024 .f32) (harg18 : arg18.IsWhole) (arg19 : Memref sig .tc .vmem S1x1024 .f32) (harg19 : arg19.IsWhole)

/-- A tile with valid rows, run once: the lists of stores it makes. -/
def tileRun (c : Dev nD) (v16 v30 : BitVec 32)
    (f2 : Buf (Elt F) (arg2.view.loc (c : Thread nD τ)))
    (f3 : Buf (Elt F) (arg3.view.loc (c : Thread nD τ)))
    (f4 : Buf (Elt F) (arg4.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (f17 : Buf (Elt F) (arg17.view.loc (c : Thread nD τ)))
    (f10 : Buf (Elt F) (arg10.view.loc (c : Thread nD τ)))
    (f13 : Buf (Elt F) (arg13.view.loc (c : Thread nD τ)))
    (f14 : Buf (Elt F) (arg14.view.loc (c : Thread nD τ)))
    (f18 : Buf (Elt F) (arg18.view.loc (c : Thread nD τ)))
    (f19 : Buf (Elt F) (arg19.view.loc (c : Thread nD τ))) :
    { L : List (View.Piece (Elt F) S128x1024 .f32) × List (View.Piece (Elt F) S128x1024 .fp8e4m3) × List (View.Piece (Elt F) S128x8 .f32) × List (View.Piece (Elt F) S8x1024 .f32) × List (View.Piece (Elt F) S1x1024 .f32) //
      ∀ K : PUnit → sProp 𝕄,
        iprop(at_ c arg2 f2 ∗ at_ c arg3 f3 ∗ at_ c arg4 f4 ∗ at_ c arg7 f7 ∗ at_ c arg8 f8 ∗ at_ c arg9 f9 ∗ at_ c arg17 f17 ∗ at_ c arg10 f10 ∗ at_ c arg13 f13 ∗ at_ c arg14 f14 ∗ at_ c arg18 f18 ∗ at_ c arg19 f19
          ∗ (iprop(at_ c arg2 f2 ∗ at_ c arg3 f3 ∗ at_ c arg4 f4 ∗ at_ c arg7 f7 ∗ at_ c arg8 f8 ∗ at_ c arg9 f9 ∗ at_ c arg17 f17 ∗ at_ c arg10 (arg10.view.writes (Elt F) f10 (L.1)) ∗ at_ c arg13 (arg13.view.writes (Elt F) f13 (L.2.1)) ∗ at_ c arg14 (arg14.view.writes (Elt F) f14 (L.2.2.1)) ∗ at_ c arg18 (arg18.view.writes (Elt F) f18 (L.2.2.2.1)) ∗ at_ c arg19 (arg19.view.writes (Elt F) f19 (L.2.2.2.2))) -∗ K ⟨⟩))
          ⊢ wp frame (wpE (defs₀ (F := F)) Variants.none c none) Set.univ (tileProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v30) K } := by
  refine ⟨⟨?_, ?_, ?_, ?_, ?_⟩, fun K => ?run⟩
  case run =>
    unfold tileProg
    iintro ⟨H2, H3, H4, H7, H8, H9, H17, H10, H13, H14, H18, H19, Hk⟩
    sl_exec_parts
    sl_step
    iapply Hk
    isplitl [H2]; · iexact H2
    isplitl [H3]; · iexact H3
    isplitl [H4]; · iexact H4
    isplitl [H7]; · iexact H7
    isplitl [H8]; · iexact H8
    isplitl [H9]; · iexact H9
    isplitl [H17]; · iexact H17
    isplitl [H10]; · iexact H10
    isplitl [H13]; · iexact H13
    isplitl [H14]; · iexact H14
    isplitl [H18]; · iexact H18
    iexact H19

end Cert.Kernel.Hand

end
-- ==== Proof.BitsLast.lean ====
/-
  The other regions run once.
-/
module

public import proofs.«01_k».proof.Proof.BitsRegions
public import Idealize.ShloMosaic.Lib.Pipeline.FrameBody
public import Idealize.ShloMosaic.Lib.Pipeline.Frame
public import Idealize.ShloMosaic.Lib.Tactic
public import Idealize.ShloMosaic.Lib.WordCmp

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (i : grid0.Coords) (arg1 : Memref sig .tc .smem S6 .i32) (harg1 : arg1.IsWhole) (arg2 : Memref sig .tc .vmem S128x1024 .bf16) (harg2 : arg2.IsWhole) (arg3 : Memref sig .tc .vmem S128x4096 .fp8e4m3) (harg3 : arg3.IsWhole) (arg4 : Memref sig .tc .vmem S128x32 .f32) (harg4 : arg4.IsWhole) (arg5 : Memref sig .tc .vmem S4096x1024 .fp8e4m3) (harg5 : arg5.IsWhole) (arg6 : Memref sig .tc .smem S32x8 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S6x1024 .f32) (harg11 : arg11.IsWhole) (arg12 : Memref sig .tc .vmem S1x1024 .f32) (harg12 : arg12.IsWhole) (arg13 : Memref sig .tc .vmem S128x1024 .fp8e4m3) (harg13 : arg13.IsWhole) (arg14 : Memref sig .tc .vmem S128x8 .f32) (harg14 : arg14.IsWhole) (arg15 : Memref sig .tc .vmem S6x1024 .i8) (harg15 : arg15.IsWhole) (arg16 : Memref sig .tc .vmem S6x1 .f32) (harg16 : arg16.IsWhole) (arg17 : Memref sig .tc .vmem S4096x1024 .bf16) (harg17 : arg17.IsWhole) (arg18 : Memref sig .tc .vmem S8x1024 .f32) (harg18 : arg18.IsWhole) (arg19 : Memref sig .tc .vmem S1x1024 .f32) (harg19 : arg19.IsWhole)

/-- The last grid step, run once. -/
def lastRun (c : Dev nD) (q : PosShare TreeShare)
    (f1 : Buf (Elt F) (arg1.view.loc (c : Thread nD τ)))
    (f18 : Buf (Elt F) (arg18.view.loc (c : Thread nD τ)))
    (f19 : Buf (Elt F) (arg19.view.loc (c : Thread nD τ)))
    (f11 : Buf (Elt F) (arg11.view.loc (c : Thread nD τ)))
    (f12 : Buf (Elt F) (arg12.view.loc (c : Thread nD τ)))
    (f15 : Buf (Elt F) (arg15.view.loc (c : Thread nD τ)))
    (f16 : Buf (Elt F) (arg16.view.loc (c : Thread nD τ))) :
    { L : List (View.Piece (Elt F) S6x1024 .f32) × List (View.Piece (Elt F) S1x1024 .f32) × List (View.Piece (Elt F) S6x1024 .i8) × List (View.Piece (Elt F) S6x1 .f32) //
      ∀ K : PUnit → sProp 𝕄,
        iprop(atq c q arg1 f1 ∗ at_ c arg18 f18 ∗ at_ c arg19 f19 ∗ at_ c arg11 f11 ∗ at_ c arg12 f12 ∗ at_ c arg15 f15 ∗ at_ c arg16 f16
          ∗ (iprop(atq c q arg1 f1 ∗ at_ c arg18 f18 ∗ at_ c arg19 f19 ∗ at_ c arg11 (arg11.view.writes (Elt F) f11 (L.1)) ∗ at_ c arg12 (arg12.view.writes (Elt F) f12 (L.2.1)) ∗ at_ c arg15 (arg15.view.writes (Elt F) f15 (L.2.2.1)) ∗ at_ c arg16 (arg16.view.writes (Elt F) f16 (L.2.2.2))) -∗ K ⟨⟩))
          ⊢ wp frame (wpE (defs₀ (F := F)) Variants.none c none) Set.univ (lastProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨⟨?_, ?_, ?_, ?_⟩, fun K => ?run⟩
  case run =>
    unfold lastProg
    iintro ⟨H1, H18, H19, H11, H12, H15, H16, Hk⟩
    sl_exec_parts
    sl_step
    iapply Hk
    isplitl [H1]; · iexact H1
    isplitl [H18]; · iexact H18
    isplitl [H19]; · iexact H19
    isplitl [H11]; · iexact H11
    isplitl [H12]; · iexact H12
    isplitl [H15]; · iexact H15
    iexact H16

/-- A tile with no valid row, run once. -/
def skipRun (c : Dev nD)
    (f10 : Buf (Elt F) (arg10.view.loc (c : Thread nD τ)))
    (f13 : Buf (Elt F) (arg13.view.loc (c : Thread nD τ)))
    (f14 : Buf (Elt F) (arg14.view.loc (c : Thread nD τ))) :
    { L : List (View.Piece (Elt F) S128x1024 .f32) × List (View.Piece (Elt F) S128x1024 .fp8e4m3) × List (View.Piece (Elt F) S128x8 .f32) //
      ∀ K : PUnit → sProp 𝕄,
        iprop(at_ c arg10 f10 ∗ at_ c arg13 f13 ∗ at_ c arg14 f14
          ∗ (iprop(at_ c arg10 (arg10.view.writes (Elt F) f10 (L.1)) ∗ at_ c arg13 (arg13.view.writes (Elt F) f13 (L.2.1)) ∗ at_ c arg14 (arg14.view.writes (Elt F) f14 (L.2.2))) -∗ K ⟨⟩))
          ⊢ wp frame (wpE (defs₀ (F := F)) Variants.none c none) Set.univ (skipProg arg10 arg13 harg13 arg14) K } := by
  refine ⟨⟨?_, ?_, ?_⟩, fun K => ?run⟩
  case run =>
    unfold skipProg
    iintro ⟨H10, H13, H14, Hk⟩
    sl_exec_parts
    sl_step
    iapply Hk
    isplitl [H10]; · iexact H10
    isplitl [H13]; · iexact H13
    iexact H14

end Cert.Kernel.Hand

end
-- ==== Proof.BitsInit.lean ====
/-
  The first grid step run once.
-/
module

public import proofs.«01_k».proof.Proof.BitsRegions
public import Idealize.ShloMosaic.Lib.Pipeline.FrameBody
public import Idealize.ShloMosaic.Lib.Pipeline.Frame
public import Idealize.ShloMosaic.Lib.Tactic
public import Idealize.ShloMosaic.Lib.WordCmp

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (i : grid0.Coords) (arg1 : Memref sig .tc .smem S6 .i32) (harg1 : arg1.IsWhole) (arg2 : Memref sig .tc .vmem S128x1024 .bf16) (harg2 : arg2.IsWhole) (arg3 : Memref sig .tc .vmem S128x4096 .fp8e4m3) (harg3 : arg3.IsWhole) (arg4 : Memref sig .tc .vmem S128x32 .f32) (harg4 : arg4.IsWhole) (arg5 : Memref sig .tc .vmem S4096x1024 .fp8e4m3) (harg5 : arg5.IsWhole) (arg6 : Memref sig .tc .smem S32x8 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S6x1024 .f32) (harg11 : arg11.IsWhole) (arg12 : Memref sig .tc .vmem S1x1024 .f32) (harg12 : arg12.IsWhole) (arg13 : Memref sig .tc .vmem S128x1024 .fp8e4m3) (harg13 : arg13.IsWhole) (arg14 : Memref sig .tc .vmem S128x8 .f32) (harg14 : arg14.IsWhole) (arg15 : Memref sig .tc .vmem S6x1024 .i8) (harg15 : arg15.IsWhole) (arg16 : Memref sig .tc .vmem S6x1 .f32) (harg16 : arg16.IsWhole) (arg17 : Memref sig .tc .vmem S4096x1024 .bf16) (harg17 : arg17.IsWhole) (arg18 : Memref sig .tc .vmem S8x1024 .f32) (harg18 : arg18.IsWhole) (arg19 : Memref sig .tc .vmem S1x1024 .f32) (harg19 : arg19.IsWhole)

/-- The first grid step, run once: the weight dequantised block by block. -/
def initRun (c : Dev nD)
    (f5 : Buf (Elt F) (arg5.view.loc (c : Thread nD τ)))
    (f6 : Buf (Elt F) (arg6.view.loc (c : Thread nD τ)))
    (f17 : Buf (Elt F) (arg17.view.loc (c : Thread nD τ)))
    (f18 : Buf (Elt F) (arg18.view.loc (c : Thread nD τ)))
    (f19 : Buf (Elt F) (arg19.view.loc (c : Thread nD τ))) :
    { L : List (View.Piece (Elt F) S4096x1024 .bf16) × List (View.Piece (Elt F) S8x1024 .f32) × List (View.Piece (Elt F) S1x1024 .f32) //
      ∀ K : PUnit → sProp 𝕄,
        iprop(at_ c arg5 f5 ∗ at_ c arg6 f6 ∗ at_ c arg17 f17 ∗ at_ c arg18 f18 ∗ at_ c arg19 f19
          ∗ (iprop(at_ c arg5 f5 ∗ at_ c arg6 f6 ∗ at_ c arg17 (arg17.view.writes (Elt F) f17 (L.1)) ∗ at_ c arg18 (arg18.view.writes (Elt F) f18 (L.2.1)) ∗ at_ c arg19 (arg19.view.writes (Elt F) f19 (L.2.2))) -∗ K ⟨⟩))
          ⊢ wp frame (wpE (defs₀ (F := F)) Variants.none c none) Set.univ (initProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨⟨?_, ?_, ?_⟩, fun K => ?run⟩
  case run =>
    unfold initProg
    iintro ⟨H5, H6, H17, H18, H19, Hk⟩
    sl_exec_parts
    sl_step
    iapply Hk
    isplitl [H5]; · iexact H5
    isplitl [H6]; · iexact H6
    isplitl [H17]; · iexact H17
    isplitl [H18]; · iexact H18
    iexact H19

end Cert.Kernel.Hand

end
-- ==== Proof.BitsBody.lean ====
/-
  The body run once: the four regions under their conditions, each written buffer at its contents after them.
-/
module

public import proofs.«01_k».proof.Proof.BitsTile
public import proofs.«01_k».proof.Proof.BitsLast
public import proofs.«01_k».proof.Proof.BitsInit
public import Idealize.ShloMosaic.Lib.Pipeline.FrameBody
public import Idealize.ShloMosaic.Lib.Pipeline.Frame
public import Idealize.ShloMosaic.Lib.Tactic
public import Idealize.ShloMosaic.Lib.WordCmp

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (i : grid0.Coords) (arg1 : Memref sig .tc .smem S6 .i32) (harg1 : arg1.IsWhole) (arg2 : Memref sig .tc .vmem S128x1024 .bf16) (harg2 : arg2.IsWhole) (arg3 : Memref sig .tc .vmem S128x4096 .fp8e4m3) (harg3 : arg3.IsWhole) (arg4 : Memref sig .tc .vmem S128x32 .f32) (harg4 : arg4.IsWhole) (arg5 : Memref sig .tc .vmem S4096x1024 .fp8e4m3) (harg5 : arg5.IsWhole) (arg6 : Memref sig .tc .smem S32x8 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S6x1024 .f32) (harg11 : arg11.IsWhole) (arg12 : Memref sig .tc .vmem S1x1024 .f32) (harg12 : arg12.IsWhole) (arg13 : Memref sig .tc .vmem S128x1024 .fp8e4m3) (harg13 : arg13.IsWhole) (arg14 : Memref sig .tc .vmem S128x8 .f32) (harg14 : arg14.IsWhole) (arg15 : Memref sig .tc .vmem S6x1024 .i8) (harg15 : arg15.IsWhole) (arg16 : Memref sig .tc .vmem S6x1 .f32) (harg16 : arg16.IsWhole) (arg17 : Memref sig .tc .vmem S4096x1024 .bf16) (harg17 : arg17.IsWhole) (arg18 : Memref sig .tc .vmem S8x1024 .f32) (harg18 : arg18.IsWhole) (arg19 : Memref sig .tc .vmem S1x1024 .f32) (harg19 : arg19.IsWhole)

/-- The length of the sequence the point's tile belongs to, as the body loads it from the table. -/
def lenAt (c : Dev nD) (f1 : Buf (Elt F) (arg1.view.loc (c : Thread nD τ))) : BitVec 32 :=
  arg1.view.readAt (Elt F) (Rect.unit (s := S6) (k0_off1 i) S1.size (k0_off1_inb i)).toLoadRect f1 (Shape.Idx.first (numel1_S1.symm ▸ Nat.one_pos : 0 < S1.numel))

/-- After the first step's region: the contents of `arg17`. -/
def i17 (c : Dev nD) (f5 : Buf (Elt F) (arg5.view.loc (c : Thread nD τ))) (f6 : Buf (Elt F) (arg6.view.loc (c : Thread nD τ))) (f17 : Buf (Elt F) (arg17.view.loc (c : Thread nD τ))) (f18 : Buf (Elt F) (arg18.view.loc (c : Thread nD τ))) (f19 : Buf (Elt F) (arg19.view.loc (c : Thread nD τ))) : Buf (Elt F) (arg17.view.loc (c : Thread nD τ)) :=
  if firstCond i = 1#1 then arg17.view.writes (Elt F) f17 (initRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19).1.1 else f17

/-- After the first step's region: the contents of `arg18`. -/
def i18 (c : Dev nD) (f5 : Buf (Elt F) (arg5.view.loc (c : Thread nD τ))) (f6 : Buf (Elt F) (arg6.view.loc (c : Thread nD τ))) (f17 : Buf (Elt F) (arg17.view.loc (c : Thread nD τ))) (f18 : Buf (Elt F) (arg18.view.loc (c : Thread nD τ))) (f19 : Buf (Elt F) (arg19.view.loc (c : Thread nD τ))) : Buf (Elt F) (arg18.view.loc (c : Thread nD τ)) :=
  if firstCond i = 1#1 then arg18.view.writes (Elt F) f18 (initRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19).1.2.1 else f18

/-- After the first step's region: the contents of `arg19`. -/
def i19 (c : Dev nD) (f5 : Buf (Elt F) (arg5.view.loc (c : Thread nD τ))) (f6 : Buf (Elt F) (arg6.view.loc (c : Thread nD τ))) (f17 : Buf (Elt F) (arg17.view.loc (c : Thread nD τ))) (f18 : Buf (Elt F) (arg18.view.loc (c : Thread nD τ))) (f19 : Buf (Elt F) (arg19.view.loc (c : Thread nD τ))) : Buf (Elt F) (arg19.view.loc (c : Thread nD τ)) :=
  if firstCond i = 1#1 then arg19.view.writes (Elt F) f19 (initRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19).1.2.2 else f19

/-- After the region of a tile with no valid row: the contents of `arg10`. -/
def s10 (c : Dev nD) (v29 : BitVec 32) (f10 : Buf (Elt F) (arg10.view.loc (c : Thread nD τ))) (f13 : Buf (Elt F) (arg13.view.loc (c : Thread nD τ))) (f14 : Buf (Elt F) (arg14.view.loc (c : Thread nD τ))) : Buf (Elt F) (arg10.view.loc (c : Thread nD τ)) :=
  if k0_cond2 i v29 = 1#1 then arg10.view.writes (Elt F) f10 (skipRun arg10 arg13 harg13 arg14 c f10 f13 f14).1.1 else f10

/-- After the region of a tile with no valid row: the contents of `arg13`. -/
def s13 (c : Dev nD) (v29 : BitVec 32) (f10 : Buf (Elt F) (arg10.view.loc (c : Thread nD τ))) (f13 : Buf (Elt F) (arg13.view.loc (c : Thread nD τ))) (f14 : Buf (Elt F) (arg14.view.loc (c : Thread nD τ))) : Buf (Elt F) (arg13.view.loc (c : Thread nD τ)) :=
  if k0_cond2 i v29 = 1#1 then arg13.view.writes (Elt F) f13 (skipRun arg10 arg13 harg13 arg14 c f10 f13 f14).1.2.1 else f13

/-- After the region of a tile with no valid row: the contents of `arg14`. -/
def s14 (c : Dev nD) (v29 : BitVec 32) (f10 : Buf (Elt F) (arg10.view.loc (c : Thread nD τ))) (f13 : Buf (Elt F) (arg13.view.loc (c : Thread nD τ))) (f14 : Buf (Elt F) (arg14.view.loc (c : Thread nD τ))) : Buf (Elt F) (arg14.view.loc (c : Thread nD τ)) :=
  if k0_cond2 i v29 = 1#1 then arg14.view.writes (Elt F) f14 (skipRun arg10 arg13 harg13 arg14 c f10 f13 f14).1.2.2 else f14

/-- After the region of a tile with valid rows: the contents of `arg10`. -/
def t10 (c : Dev nD) (v29 v16 v30 : BitVec 32) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ))) (f8 : Buf (Elt F) (arg8.view.loc (c : Thread nD τ))) (f9 : Buf (Elt F) (arg9.view.loc (c : Thread nD τ))) (f17 : Buf (Elt F) (arg17.view.loc (c : Thread nD τ))) (f10 : Buf (Elt F) (arg10.view.loc (c : Thread nD τ))) (f13 : Buf (Elt F) (arg13.view.loc (c : Thread nD τ))) (f14 : Buf (Elt F) (arg14.view.loc (c : Thread nD τ))) (f18 : Buf (Elt F) (arg18.view.loc (c : Thread nD τ))) (f19 : Buf (Elt F) (arg19.view.loc (c : Thread nD τ))) : Buf (Elt F) (arg10.view.loc (c : Thread nD τ)) :=
  if k0_cond3 i v29 = 1#1 then arg10.view.writes (Elt F) f10 (tileRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v16 v30 f2 f3 f4 f7 f8 f9 f17 f10 f13 f14 f18 f19).1.1 else f10

/-- After the region of a tile with valid rows: the contents of `arg13`. -/
def t13 (c : Dev nD) (v29 v16 v30 : BitVec 32) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ))) (f8 : Buf (Elt F) (arg8.view.loc (c : Thread nD τ))) (f9 : Buf (Elt F) (arg9.view.loc (c : Thread nD τ))) (f17 : Buf (Elt F) (arg17.view.loc (c : Thread nD τ))) (f10 : Buf (Elt F) (arg10.view.loc (c : Thread nD τ))) (f13 : Buf (Elt F) (arg13.view.loc (c : Thread nD τ))) (f14 : Buf (Elt F) (arg14.view.loc (c : Thread nD τ))) (f18 : Buf (Elt F) (arg18.view.loc (c : Thread nD τ))) (f19 : Buf (Elt F) (arg19.view.loc (c : Thread nD τ))) : Buf (Elt F) (arg13.view.loc (c : Thread nD τ)) :=
  if k0_cond3 i v29 = 1#1 then arg13.view.writes (Elt F) f13 (tileRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v16 v30 f2 f3 f4 f7 f8 f9 f17 f10 f13 f14 f18 f19).1.2.1 else f13

/-- After the region of a tile with valid rows: the contents of `arg14`. -/
def t14 (c : Dev nD) (v29 v16 v30 : BitVec 32) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ))) (f8 : Buf (Elt F) (arg8.view.loc (c : Thread nD τ))) (f9 : Buf (Elt F) (arg9.view.loc (c : Thread nD τ))) (f17 : Buf (Elt F) (arg17.view.loc (c : Thread nD τ))) (f10 : Buf (Elt F) (arg10.view.loc (c : Thread nD τ))) (f13 : Buf (Elt F) (arg13.view.loc (c : Thread nD τ))) (f14 : Buf (Elt F) (arg14.view.loc (c : Thread nD τ))) (f18 : Buf (Elt F) (arg18.view.loc (c : Thread nD τ))) (f19 : Buf (Elt F) (arg19.view.loc (c : Thread nD τ))) : Buf (Elt F) (arg14.view.loc (c : Thread nD τ)) :=
  if k0_cond3 i v29 = 1#1 then arg14.view.writes (Elt F) f14 (tileRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v16 v30 f2 f3 f4 f7 f8 f9 f17 f10 f13 f14 f18 f19).1.2.2.1 else f14

/-- After the region of a tile with valid rows: the contents of `arg18`. -/
def t18 (c : Dev nD) (v29 v16 v30 : BitVec 32) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ))) (f8 : Buf (Elt F) (arg8.view.loc (c : Thread nD τ))) (f9 : Buf (Elt F) (arg9.view.loc (c : Thread nD τ))) (f17 : Buf (Elt F) (arg17.view.loc (c : Thread nD τ))) (f10 : Buf (Elt F) (arg10.view.loc (c : Thread nD τ))) (f13 : Buf (Elt F) (arg13.view.loc (c : Thread nD τ))) (f14 : Buf (Elt F) (arg14.view.loc (c : Thread nD τ))) (f18 : Buf (Elt F) (arg18.view.loc (c : Thread nD τ))) (f19 : Buf (Elt F) (arg19.view.loc (c : Thread nD τ))) : Buf (Elt F) (arg18.view.loc (c : Thread nD τ)) :=
  if k0_cond3 i v29 = 1#1 then arg18.view.writes (Elt F) f18 (tileRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v16 v30 f2 f3 f4 f7 f8 f9 f17 f10 f13 f14 f18 f19).1.2.2.2.1 else f18

/-- After the region of a tile with valid rows: the contents of `arg19`. -/
def t19 (c : Dev nD) (v29 v16 v30 : BitVec 32) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ))) (f8 : Buf (Elt F) (arg8.view.loc (c : Thread nD τ))) (f9 : Buf (Elt F) (arg9.view.loc (c : Thread nD τ))) (f17 : Buf (Elt F) (arg17.view.loc (c : Thread nD τ))) (f10 : Buf (Elt F) (arg10.view.loc (c : Thread nD τ))) (f13 : Buf (Elt F) (arg13.view.loc (c : Thread nD τ))) (f14 : Buf (Elt F) (arg14.view.loc (c : Thread nD τ))) (f18 : Buf (Elt F) (arg18.view.loc (c : Thread nD τ))) (f19 : Buf (Elt F) (arg19.view.loc (c : Thread nD τ))) : Buf (Elt F) (arg19.view.loc (c : Thread nD τ)) :=
  if k0_cond3 i v29 = 1#1 then arg19.view.writes (Elt F) f19 (tileRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v16 v30 f2 f3 f4 f7 f8 f9 f17 f10 f13 f14 f18 f19).1.2.2.2.2 else f19

/-- After the last step's region: the contents of `arg11`. -/
def l11 (c : Dev nD) (q : PosShare TreeShare) (f1 : Buf (Elt F) (arg1.view.loc (c : Thread nD τ))) (f18 : Buf (Elt F) (arg18.view.loc (c : Thread nD τ))) (f19 : Buf (Elt F) (arg19.view.loc (c : Thread nD τ))) (f11 : Buf (Elt F) (arg11.view.loc (c : Thread nD τ))) (f12 : Buf (Elt F) (arg12.view.loc (c : Thread nD τ))) (f15 : Buf (Elt F) (arg15.view.loc (c : Thread nD τ))) (f16 : Buf (Elt F) (arg16.view.loc (c : Thread nD τ))) : Buf (Elt F) (arg11.view.loc (c : Thread nD τ)) :=
  if k0_cond4 i = 1#1 then arg11.view.writes (Elt F) f11 (lastRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16).1.1 else f11

/-- After the last step's region: the contents of `arg12`. -/
def l12 (c : Dev nD) (q : PosShare TreeShare) (f1 : Buf (Elt F) (arg1.view.loc (c : Thread nD τ))) (f18 : Buf (Elt F) (arg18.view.loc (c : Thread nD τ))) (f19 : Buf (Elt F) (arg19.view.loc (c : Thread nD τ))) (f11 : Buf (Elt F) (arg11.view.loc (c : Thread nD τ))) (f12 : Buf (Elt F) (arg12.view.loc (c : Thread nD τ))) (f15 : Buf (Elt F) (arg15.view.loc (c : Thread nD τ))) (f16 : Buf (Elt F) (arg16.view.loc (c : Thread nD τ))) : Buf (Elt F) (arg12.view.loc (c : Thread nD τ)) :=
  if k0_cond4 i = 1#1 then arg12.view.writes (Elt F) f12 (lastRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16).1.2.1 else f12

/-- After the last step's region: the contents of `arg15`. -/
def l15 (c : Dev nD) (q : PosShare TreeShare) (f1 : Buf (Elt F) (arg1.view.loc (c : Thread nD τ))) (f18 : Buf (Elt F) (arg18.view.loc (c : Thread nD τ))) (f19 : Buf (Elt F) (arg19.view.loc (c : Thread nD τ))) (f11 : Buf (Elt F) (arg11.view.loc (c : Thread nD τ))) (f12 : Buf (Elt F) (arg12.view.loc (c : Thread nD τ))) (f15 : Buf (Elt F) (arg15.view.loc (c : Thread nD τ))) (f16 : Buf (Elt F) (arg16.view.loc (c : Thread nD τ))) : Buf (Elt F) (arg15.view.loc (c : Thread nD τ)) :=
  if k0_cond4 i = 1#1 then arg15.view.writes (Elt F) f15 (lastRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16).1.2.2.1 else f15

/-- After the last step's region: the contents of `arg16`. -/
def l16 (c : Dev nD) (q : PosShare TreeShare) (f1 : Buf (Elt F) (arg1.view.loc (c : Thread nD τ))) (f18 : Buf (Elt F) (arg18.view.loc (c : Thread nD τ))) (f19 : Buf (Elt F) (arg19.view.loc (c : Thread nD τ))) (f11 : Buf (Elt F) (arg11.view.loc (c : Thread nD τ))) (f12 : Buf (Elt F) (arg12.view.loc (c : Thread nD τ))) (f15 : Buf (Elt F) (arg15.view.loc (c : Thread nD τ))) (f16 : Buf (Elt F) (arg16.view.loc (c : Thread nD τ))) : Buf (Elt F) (arg16.view.loc (c : Thread nD τ)) :=
  if k0_cond4 i = 1#1 then arg16.view.writes (Elt F) f16 (lastRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16).1.2.2.2 else f16

theorem init_stage (c : Dev nD) (f5 : Buf (Elt F) (arg5.view.loc (c : Thread nD τ))) (f6 : Buf (Elt F) (arg6.view.loc (c : Thread nD τ))) (f17 : Buf (Elt F) (arg17.view.loc (c : Thread nD τ))) (f18 : Buf (Elt F) (arg18.view.loc (c : Thread nD τ))) (f19 : Buf (Elt F) (arg19.view.loc (c : Thread nD τ))) {α : Type} (rest : PUnit → Prog (TpuEff nD τ sig (Elt F) Λ₀ .tc) α) (K : α → sProp 𝕄) :
    iprop(at_ c arg5 f5 ∗ at_ c arg6 f6 ∗ at_ c arg17 f17 ∗ at_ c arg18 f18 ∗ at_ c arg19 f19
      ∗ (iprop(at_ c arg5 f5 ∗ at_ c arg6 f6 ∗ at_ c arg17 (i17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19) ∗ at_ c arg18 (i18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19) ∗ at_ c arg19 (i19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19)) -∗ wp frame (wpE (defs₀ (F := F)) Variants.none c none) Set.univ (rest ⟨⟩) K))
      ⊢ wp frame (wpE (defs₀ (F := F)) Variants.none c none) Set.univ (if _h : firstCond i = 1#1 then initThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 rest else rest ⟨⟩) K := by
  unfold i17 i18 i19
  by_cases h : firstCond i = 1#1
  · rw [dif_pos h, initThen_eq, wp_bind]; simp only [if_pos h]
    exact (initRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19).2 (fun a => wp frame (wpE (defs₀ (F := F)) Variants.none c none) Set.univ (rest a) K)
  · rw [dif_neg h]; simp only [if_neg h]
    iintro ⟨H5, H6, H17, H18, H19, Hk⟩
    iapply Hk
    isplitl [H5]; · iexact H5
    isplitl [H6]; · iexact H6
    isplitl [H17]; · iexact H17
    isplitl [H18]; · iexact H18
    iexact H19

theorem skip_stage (c : Dev nD) (v29 : BitVec 32) (f10 : Buf (Elt F) (arg10.view.loc (c : Thread nD τ))) (f13 : Buf (Elt F) (arg13.view.loc (c : Thread nD τ))) (f14 : Buf (Elt F) (arg14.view.loc (c : Thread nD τ))) {α : Type} (rest : PUnit → Prog (TpuEff nD τ sig (Elt F) Λ₀ .tc) α) (K : α → sProp 𝕄) :
    iprop(at_ c arg10 f10 ∗ at_ c arg13 f13 ∗ at_ c arg14 f14
      ∗ (iprop(at_ c arg10 (s10 i arg10 arg13 harg13 arg14 c v29 f10 f13 f14) ∗ at_ c arg13 (s13 i arg10 arg13 harg13 arg14 c v29 f10 f13 f14) ∗ at_ c arg14 (s14 i arg10 arg13 harg13 arg14 c v29 f10 f13 f14)) -∗ wp frame (wpE (defs₀ (F := F)) Variants.none c none) Set.univ (rest ⟨⟩) K))
      ⊢ wp frame (wpE (defs₀ (F := F)) Variants.none c none) Set.univ (if _h : k0_cond2 i v29 = 1#1 then skipThen arg10 arg13 harg13 arg14 rest else rest ⟨⟩) K := by
  unfold s10 s13 s14
  by_cases h : k0_cond2 i v29 = 1#1
  · rw [dif_pos h, skipThen_eq, wp_bind]; simp only [if_pos h]
    exact (skipRun arg10 arg13 harg13 arg14 c f10 f13 f14).2 (fun a => wp frame (wpE (defs₀ (F := F)) Variants.none c none) Set.univ (rest a) K)
  · rw [dif_neg h]; simp only [if_neg h]
    iintro ⟨H10, H13, H14, Hk⟩
    iapply Hk
    isplitl [H10]; · iexact H10
    isplitl [H13]; · iexact H13
    iexact H14

theorem tile_stage (c : Dev nD) (v29 v16 v30 : BitVec 32) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ))) (f8 : Buf (Elt F) (arg8.view.loc (c : Thread nD τ))) (f9 : Buf (Elt F) (arg9.view.loc (c : Thread nD τ))) (f17 : Buf (Elt F) (arg17.view.loc (c : Thread nD τ))) (f10 : Buf (Elt F) (arg10.view.loc (c : Thread nD τ))) (f13 : Buf (Elt F) (arg13.view.loc (c : Thread nD τ))) (f14 : Buf (Elt F) (arg14.view.loc (c : Thread nD τ))) (f18 : Buf (Elt F) (arg18.view.loc (c : Thread nD τ))) (f19 : Buf (Elt F) (arg19.view.loc (c : Thread nD τ))) {α : Type} (rest : PUnit → Prog (TpuEff nD τ sig (Elt F) Λ₀ .tc) α) (K : α → sProp 𝕄) :
    iprop(at_ c arg2 f2 ∗ at_ c arg3 f3 ∗ at_ c arg4 f4 ∗ at_ c arg7 f7 ∗ at_ c arg8 f8 ∗ at_ c arg9 f9 ∗ at_ c arg17 f17 ∗ at_ c arg10 f10 ∗ at_ c arg13 f13 ∗ at_ c arg14 f14 ∗ at_ c arg18 f18 ∗ at_ c arg19 f19
      ∗ (iprop(at_ c arg2 f2 ∗ at_ c arg3 f3 ∗ at_ c arg4 f4 ∗ at_ c arg7 f7 ∗ at_ c arg8 f8 ∗ at_ c arg9 f9 ∗ at_ c arg17 f17 ∗ at_ c arg10 (t10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v29 v16 v30 f2 f3 f4 f7 f8 f9 f17 f10 f13 f14 f18 f19) ∗ at_ c arg13 (t13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v29 v16 v30 f2 f3 f4 f7 f8 f9 f17 f10 f13 f14 f18 f19) ∗ at_ c arg14 (t14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v29 v16 v30 f2 f3 f4 f7 f8 f9 f17 f10 f13 f14 f18 f19) ∗ at_ c arg18 (t18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v29 v16 v30 f2 f3 f4 f7 f8 f9 f17 f10 f13 f14 f18 f19) ∗ at_ c arg19 (t19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v29 v16 v30 f2 f3 f4 f7 f8 f9 f17 f10 f13 f14 f18 f19)) -∗ wp frame (wpE (defs₀ (F := F)) Variants.none c none) Set.univ (rest ⟨⟩) K))
      ⊢ wp frame (wpE (defs₀ (F := F)) Variants.none c none) Set.univ (if _h : k0_cond3 i v29 = 1#1 then tileThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v30 rest else rest ⟨⟩) K := by
  unfold t10 t13 t14 t18 t19
  by_cases h : k0_cond3 i v29 = 1#1
  · rw [dif_pos h, tileThen_eq, wp_bind]; simp only [if_pos h]
    exact (tileRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v16 v30 f2 f3 f4 f7 f8 f9 f17 f10 f13 f14 f18 f19).2 (fun a => wp frame (wpE (defs₀ (F := F)) Variants.none c none) Set.univ (rest a) K)
  · rw [dif_neg h]; simp only [if_neg h]
    iintro ⟨H2, H3, H4, H7, H8, H9, H17, H10, H13, H14, H18, H19, Hk⟩
    iapply Hk
    isplitl [H2]; · iexact H2
    isplitl [H3]; · iexact H3
    isplitl [H4]; · iexact H4
    isplitl [H7]; · iexact H7
    isplitl [H8]; · iexact H8
    isplitl [H9]; · iexact H9
    isplitl [H17]; · iexact H17
    isplitl [H10]; · iexact H10
    isplitl [H13]; · iexact H13
    isplitl [H14]; · iexact H14
    isplitl [H18]; · iexact H18
    iexact H19

theorem last_stage (c : Dev nD) (q : PosShare TreeShare) (f1 : Buf (Elt F) (arg1.view.loc (c : Thread nD τ))) (f18 : Buf (Elt F) (arg18.view.loc (c : Thread nD τ))) (f19 : Buf (Elt F) (arg19.view.loc (c : Thread nD τ))) (f11 : Buf (Elt F) (arg11.view.loc (c : Thread nD τ))) (f12 : Buf (Elt F) (arg12.view.loc (c : Thread nD τ))) (f15 : Buf (Elt F) (arg15.view.loc (c : Thread nD τ))) (f16 : Buf (Elt F) (arg16.view.loc (c : Thread nD τ))) {α : Type} (rest : PUnit → Prog (TpuEff nD τ sig (Elt F) Λ₀ .tc) α) (K : α → sProp 𝕄) :
    iprop(atq c q arg1 f1 ∗ at_ c arg18 f18 ∗ at_ c arg19 f19 ∗ at_ c arg11 f11 ∗ at_ c arg12 f12 ∗ at_ c arg15 f15 ∗ at_ c arg16 f16
      ∗ (iprop(atq c q arg1 f1 ∗ at_ c arg18 f18 ∗ at_ c arg19 f19 ∗ at_ c arg11 (l11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16) ∗ at_ c arg12 (l12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16) ∗ at_ c arg15 (l15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16) ∗ at_ c arg16 (l16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16)) -∗ wp frame (wpE (defs₀ (F := F)) Variants.none c none) Set.univ (rest ⟨⟩) K))
      ⊢ wp frame (wpE (defs₀ (F := F)) Variants.none c none) Set.univ (if _h : k0_cond4 i = 1#1 then lastThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 rest else rest ⟨⟩) K := by
  unfold l11 l12 l15 l16
  by_cases h : k0_cond4 i = 1#1
  · rw [dif_pos h, lastThen_eq, wp_bind]; simp only [if_pos h]
    exact (lastRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16).2 (fun a => wp frame (wpE (defs₀ (F := F)) Variants.none c none) Set.univ (rest a) K)
  · rw [dif_neg h]; simp only [if_neg h]
    iintro ⟨H1, H18, H19, H11, H12, H15, H16, Hk⟩
    iapply Hk
    isplitl [H1]; · iexact H1
    isplitl [H18]; · iexact H18
    isplitl [H19]; · iexact H19
    isplitl [H11]; · iexact H11
    isplitl [H12]; · iexact H12
    isplitl [H15]; · iexact H15
    iexact H16

/-- The table's word loaded. -/
theorem len_load (c : Dev nD) (q : PosShare TreeShare) (f1 : Buf (Elt F) (arg1.view.loc (c : Thread nD τ))) (K : BitVec 32 → sProp 𝕄) :
    iprop(atq c q arg1 f1 ∗ (atq c q arg1 f1 -∗ K (lenAt i arg1 c f1)))
      ⊢ wp frame (wpE (defs₀ (F := F)) Variants.none c none) Set.univ
          (smemLoad arg1 (Rect.unit (s := S6) (k0_off1 i) S1.size (k0_off1_inb i)) numel1_S1 rfl) K := by
  unfold smemLoad
  iintro ⟨H1, Hk⟩
  sl_exec
  sl_step
  unfold lenAt
  iapply Hk
  iexact H1

/-- The body's first half: the first step's region, the length loaded, the region of a tile with no valid row. -/
theorem part95_run (c : Dev nD) (q : PosShare TreeShare) (f1 : Buf (Elt F) (arg1.view.loc (c : Thread nD τ))) (f5 : Buf (Elt F) (arg5.view.loc (c : Thread nD τ))) (f6 : Buf (Elt F) (arg6.view.loc (c : Thread nD τ))) (f17 : Buf (Elt F) (arg17.view.loc (c : Thread nD τ))) (f18 : Buf (Elt F) (arg18.view.loc (c : Thread nD τ))) (f19 : Buf (Elt F) (arg19.view.loc (c : Thread nD τ))) (f10 : Buf (Elt F) (arg10.view.loc (c : Thread nD τ))) (f13 : Buf (Elt F) (arg13.view.loc (c : Thread nD τ))) (f14 : Buf (Elt F) (arg14.view.loc (c : Thread nD τ))) (K : (Σ' (arg0 : BitVec 32) (v16 : BitVec 32) (v29 : Elt F .i32) (v30 : BitVec 32), BitVec 1) → sProp 𝕄) :
    iprop(atq c q arg1 f1 ∗ at_ c arg5 f5 ∗ at_ c arg6 f6 ∗ at_ c arg17 f17 ∗ at_ c arg18 f18 ∗ at_ c arg19 f19 ∗ at_ c arg10 f10 ∗ at_ c arg13 f13 ∗ at_ c arg14 f14
      ∗ (iprop(atq c q arg1 f1 ∗ at_ c arg5 f5 ∗ at_ c arg6 f6 ∗ at_ c arg17 (i17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19) ∗ at_ c arg18 (i18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19) ∗ at_ c arg19 (i19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19) ∗ at_ c arg10 (s10 i arg10 arg13 harg13 arg14 c (lenAt i arg1 c f1) f10 f13 f14) ∗ at_ c arg13 (s13 i arg10 arg13 harg13 arg14 c (lenAt i arg1 c f1) f10 f13 f14) ∗ at_ c arg14 (s14 i arg10 arg13 harg13 arg14 c (lenAt i arg1 c f1) f10 f13 f14))
        -∗ K ⟨BitVec.ofNat 32 (i 0).val, seqIdx i, (lenAt i arg1 c f1), Scalar.subi (lenAt i arg1 c f1) (rowBase i), Scalar.cmpi .sgt (Scalar.subi (lenAt i arg1 c f1) (rowBase i)) 0#32⟩))
      ⊢ wp frame (wpE (defs₀ (F := F)) Variants.none c none) Set.univ (k0_part95 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  rw [part95_eq]; dsimp only
  iintro ⟨H1, H5, H6, H17, H18, H19, H10, H13, H14, Hk⟩
  rw [wp_bind]
  iapply (len_load i arg1 c q f1)
  isplitl [H1]; · iexact H1
  iintro H1
  iapply (init_stage i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19)
  isplitl [H5]; · iexact H5
  isplitl [H6]; · iexact H6
  isplitl [H17]; · iexact H17
  isplitl [H18]; · iexact H18
  isplitl [H19]; · iexact H19
  iintro ⟨H5, H6, H17, H18, H19⟩
  iapply (skip_stage i arg10 arg13 harg13 arg14 c (lenAt i arg1 c f1) f10 f13 f14)
  isplitl [H10]; · iexact H10
  isplitl [H13]; · iexact H13
  isplitl [H14]; · iexact H14
  iintro ⟨H10, H13, H14⟩
  rw [wp_pure]; imodintro
  iapply Hk
  isplitl [H1]; · iexact H1
  isplitl [H5]; · iexact H5
  isplitl [H6]; · iexact H6
  isplitl [H17]; · iexact H17
  isplitl [H18]; · iexact H18
  isplitl [H19]; · iexact H19
  isplitl [H10]; · iexact H10
  isplitl [H13]; · iexact H13
  iexact H14

/-- What one run of the body leaves: `a…` after the first step's region and the region of a tile with no valid row, `b…` at the end. -/
def BodyPost (c : Dev nD) (q : PosShare TreeShare) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (a17 : Buf (Elt F) (arg17.view.loc (c : Thread nD τ))) (a18 : Buf (Elt F) (arg18.view.loc (c : Thread nD τ))) (a19 : Buf (Elt F) (arg19.view.loc (c : Thread nD τ))) (a10 : Buf (Elt F) (arg10.view.loc (c : Thread nD τ))) (a13 : Buf (Elt F) (arg13.view.loc (c : Thread nD τ))) (a14 : Buf (Elt F) (arg14.view.loc (c : Thread nD τ))) (b10 : Buf (Elt F) (arg10.view.loc (c : Thread nD τ))) (b13 : Buf (Elt F) (arg13.view.loc (c : Thread nD τ))) (b14 : Buf (Elt F) (arg14.view.loc (c : Thread nD τ))) (b18 : Buf (Elt F) (arg18.view.loc (c : Thread nD τ))) (b19 : Buf (Elt F) (arg19.view.loc (c : Thread nD τ))) (b11 : Buf (Elt F) (arg11.view.loc (c : Thread nD τ))) (b12 : Buf (Elt F) (arg12.view.loc (c : Thread nD τ))) (b15 : Buf (Elt F) (arg15.view.loc (c : Thread nD τ))) (b16 : Buf (Elt F) (arg16.view.loc (c : Thread nD τ))) : Prop :=
  a17 = (i17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19)
          ∧ a18 = (i18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19)
          ∧ a19 = (i19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19)
          ∧ a10 = (s10 i arg10 arg13 harg13 arg14 c (lenAt i arg1 c f1) f10 f13 f14)
          ∧ a13 = (s13 i arg10 arg13 harg13 arg14 c (lenAt i arg1 c f1) f10 f13 f14)
          ∧ a14 = (s14 i arg10 arg13 harg13 arg14 c (lenAt i arg1 c f1) f10 f13 f14)
          ∧ b10 = (t10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (lenAt i arg1 c f1) (seqIdx i) (Scalar.subi (lenAt i arg1 c f1) (rowBase i)) f2 f3 f4 f7 f8 f9 a17 a10 a13 a14 a18 a19)
          ∧ b13 = (t13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (lenAt i arg1 c f1) (seqIdx i) (Scalar.subi (lenAt i arg1 c f1) (rowBase i)) f2 f3 f4 f7 f8 f9 a17 a10 a13 a14 a18 a19)
          ∧ b14 = (t14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (lenAt i arg1 c f1) (seqIdx i) (Scalar.subi (lenAt i arg1 c f1) (rowBase i)) f2 f3 f4 f7 f8 f9 a17 a10 a13 a14 a18 a19)
          ∧ b18 = (t18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (lenAt i arg1 c f1) (seqIdx i) (Scalar.subi (lenAt i arg1 c f1) (rowBase i)) f2 f3 f4 f7 f8 f9 a17 a10 a13 a14 a18 a19)
          ∧ b19 = (t19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (lenAt i arg1 c f1) (seqIdx i) (Scalar.subi (lenAt i arg1 c f1) (rowBase i)) f2 f3 f4 f7 f8 f9 a17 a10 a13 a14 a18 a19)
          ∧ b11 = (l11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 b18 b19 f11 f12 f15 f16)
          ∧ b12 = (l12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 b18 b19 f11 f12 f15 f16)
          ∧ b15 = (l15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 b18 b19 f11 f12 f15 f16)
          ∧ b16 = (l16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 b18 b19 f11 f12 f15 f16)

/-- The whole body run once, from every buffer it is handed at any contents. -/
theorem body_run (c : Dev nD) (q : PosShare TreeShare) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (K : PUnit → sProp 𝕄) :
    iprop(atq c q arg1 f1 ∗ at_ c arg2 f2 ∗ at_ c arg3 f3 ∗ at_ c arg4 f4 ∗ at_ c arg5 f5 ∗ at_ c arg6 f6 ∗ at_ c arg7 f7 ∗ at_ c arg8 f8 ∗ at_ c arg9 f9 ∗ at_ c arg10 f10 ∗ at_ c arg11 f11 ∗ at_ c arg12 f12 ∗ at_ c arg13 f13 ∗ at_ c arg14 f14 ∗ at_ c arg15 f15 ∗ at_ c arg16 f16 ∗ at_ c arg17 f17 ∗ at_ c arg18 f18 ∗ at_ c arg19 f19
      ∗ (∀ (a17 : Buf (Elt F) (arg17.view.loc (c : Thread nD τ))) (a18 : Buf (Elt F) (arg18.view.loc (c : Thread nD τ))) (a19 : Buf (Elt F) (arg19.view.loc (c : Thread nD τ))) (a10 : Buf (Elt F) (arg10.view.loc (c : Thread nD τ))) (a13 : Buf (Elt F) (arg13.view.loc (c : Thread nD τ))) (a14 : Buf (Elt F) (arg14.view.loc (c : Thread nD τ))) (b10 : Buf (Elt F) (arg10.view.loc (c : Thread nD τ))) (b13 : Buf (Elt F) (arg13.view.loc (c : Thread nD τ))) (b14 : Buf (Elt F) (arg14.view.loc (c : Thread nD τ))) (b18 : Buf (Elt F) (arg18.view.loc (c : Thread nD τ))) (b19 : Buf (Elt F) (arg19.view.loc (c : Thread nD τ))) (b11 : Buf (Elt F) (arg11.view.loc (c : Thread nD τ))) (b12 : Buf (Elt F) (arg12.view.loc (c : Thread nD τ))) (b15 : Buf (Elt F) (arg15.view.loc (c : Thread nD τ))) (b16 : Buf (Elt F) (arg16.view.loc (c : Thread nD τ))),
        ⌜BodyPost i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f2 f3 f4 f5 f6 f7 f8 f9 f10 f11 f12 f13 f14 f15 f16 f17 f18 f19 a17 a18 a19 a10 a13 a14 b10 b13 b14 b18 b19 b11 b12 b15 b16⌝
        -∗ iprop(atq c q arg1 f1 ∗ at_ c arg2 f2 ∗ at_ c arg3 f3 ∗ at_ c arg4 f4 ∗ at_ c arg5 f5 ∗ at_ c arg6 f6 ∗ at_ c arg7 f7 ∗ at_ c arg8 f8 ∗ at_ c arg9 f9 ∗ at_ c arg10 b10 ∗ at_ c arg11 b11 ∗ at_ c arg12 b12 ∗ at_ c arg13 b13 ∗ at_ c arg14 b14 ∗ at_ c arg15 b15 ∗ at_ c arg16 b16 ∗ at_ c arg17 a17 ∗ at_ c arg18 b18 ∗ at_ c arg19 b19) -∗ K ⟨⟩))
      ⊢ wp frame (wpE (defs₀ (F := F)) Variants.none c none) Set.univ (cc0_down_ln_pool i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  rw [body_eq, wp_bind]
  iintro ⟨H1, H2, H3, H4, H5, H6, H7, H8, H9, H10, H11, H12, H13, H14, H15, H16, H17, H18, H19, Hk⟩
  iapply (part95_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f5 f6 f17 f18 f19 f10 f13 f14)
  isplitl [H1]; · iexact H1
  isplitl [H5]; · iexact H5
  isplitl [H6]; · iexact H6
  isplitl [H17]; · iexact H17
  isplitl [H18]; · iexact H18
  isplitl [H19]; · iexact H19
  isplitl [H10]; · iexact H10
  isplitl [H13]; · iexact H13
  isplitl [H14]; · iexact H14
  iintro ⟨H1, H5, H6, H17, H18, H19, H10, H13, H14⟩
  dsimp only
  iapply (tile_stage i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (lenAt i arg1 c f1) (seqIdx i) (Scalar.subi (lenAt i arg1 c f1) (rowBase i)) f2 f3 f4 f7 f8 f9 (i17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19) (s10 i arg10 arg13 harg13 arg14 c (lenAt i arg1 c f1) f10 f13 f14) (s13 i arg10 arg13 harg13 arg14 c (lenAt i arg1 c f1) f10 f13 f14) (s14 i arg10 arg13 harg13 arg14 c (lenAt i arg1 c f1) f10 f13 f14) (i18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19) (i19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19))
  isplitl [H2]; · iexact H2
  isplitl [H3]; · iexact H3
  isplitl [H4]; · iexact H4
  isplitl [H7]; · iexact H7
  isplitl [H8]; · iexact H8
  isplitl [H9]; · iexact H9
  isplitl [H17]; · iexact H17
  isplitl [H10]; · iexact H10
  isplitl [H13]; · iexact H13
  isplitl [H14]; · iexact H14
  isplitl [H18]; · iexact H18
  isplitl [H19]; · iexact H19
  iintro ⟨H2, H3, H4, H7, H8, H9, H17, H10, H13, H14, H18, H19⟩
  iapply (last_stage i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 _ _ f11 f12 f15 f16)
  isplitl [H1]; · iexact H1
  isplitl [H18]; · iexact H18
  isplitl [H19]; · iexact H19
  isplitl [H11]; · iexact H11
  isplitl [H12]; · iexact H12
  isplitl [H15]; · iexact H15
  isplitl [H16]; · iexact H16
  iintro ⟨H1, H18, H19, H11, H12, H15, H16⟩
  rw [wp_pure]; imodintro
  ispecialize Hk $$ %_ %_ %_ %_ %_ %_ %_ %_ %_ %_ %_ %_ %_ %_ %_ %⟨rfl, rfl, rfl, rfl, rfl, rfl, rfl, rfl, rfl, rfl, rfl, rfl, rfl, rfl, rfl⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

end Cert.Kernel.Hand

end
-- ==== Proof.BitsFrame.lean ====
/-
  The launch around the body: any relation the body's runs maintain (`Track`, `StepOK`) holds of the final arrays.
  The scratch buffers' contents are carried from step to step by `Track.inv`; what a step leaves in a window's buffer is
  said by `Track.rel`.
-/
module

public import proofs.«01_k».proof.Proof.BitsBody
public import Idealize.ShloMosaic.Lib.Pipeline.FrameBody
public import Idealize.ShloMosaic.Lib.Pipeline.Frame
public import Idealize.ShloMosaic.Lib.Tactic
public import Idealize.ShloMosaic.Lib.WordCmp

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-- The memory the region finds on core `c`: the launch memory with the reshaped operands in place. -/
def V (c : Dev nD) (b : Ref sig .tc) : Buf (Elt F) ((c : Thread nD τ).loc b) := StableHlo.after hostOps0 (fun b => m (c, b)) b

/-- The table's contents, and that the pipeline admits them. -/
def tbl : pre0.Contents (Elt F) := fun k => V m 0 (pre0.ref k)
def adm : (p : Fin 1) → (pcfgs (F := F) p).Adm := fun _ => ⟨tbl m, by show ok0 (tbl m); unfold ok0; trivial⟩
abbrev cfgA : Pipeline.Cfg sig Λ₀ := cfg0 (adm m 0)

abbrev M1 : Memref sig .tc .smem S6 .i32 := Memref.whole main_arg8
abbrev S17 : Memref sig .tc .vmem S4096x1024 .bf16 := Memref.whole cc0_scratch0
abbrev S18 : Memref sig .tc .vmem S8x1024 .f32 := Memref.whole cc0_scratch1
abbrev S19 : Memref sig .tc .vmem S1x1024 .f32 := Memref.whole cc0_scratch2
abbrev st2 (t : Fin (cfgA m).N) : Memref sig .tc .vmem S128x1024 .bf16 := spec0_0.stage ((cfgA m).slots t 0)
abbrev hst2 (t : Fin (cfgA m).N) : (st2 m t).IsWhole := hstage0_0 (((cfgA m).slots t 0).cast nbuf0_0)
abbrev st3 (t : Fin (cfgA m).N) : Memref sig .tc .vmem S128x4096 .fp8e4m3 := spec0_1.stage ((cfgA m).slots t 1)
abbrev hst3 (t : Fin (cfgA m).N) : (st3 m t).IsWhole := hstage0_1 (((cfgA m).slots t 1).cast nbuf0_1)
abbrev st4 (t : Fin (cfgA m).N) : Memref sig .tc .vmem S128x32 .f32 := spec0_2.stage ((cfgA m).slots t 2)
abbrev hst4 (t : Fin (cfgA m).N) : (st4 m t).IsWhole := hstage0_2 (((cfgA m).slots t 2).cast nbuf0_2)
abbrev st5 (t : Fin (cfgA m).N) : Memref sig .tc .vmem S4096x1024 .fp8e4m3 := spec0_3.stage ((cfgA m).slots t 3)
abbrev hst5 (t : Fin (cfgA m).N) : (st5 m t).IsWhole := hstage0_3 (((cfgA m).slots t 3).cast nbuf0_3)
abbrev st6 (t : Fin (cfgA m).N) : Memref sig .tc .smem S32x8 .f32 := spec0_4.stage ((cfgA m).slots t 4)
abbrev hst6 (t : Fin (cfgA m).N) : (st6 m t).IsWhole := hstage0_4 (((cfgA m).slots t 4).cast nbuf0_4)
abbrev st7 (t : Fin (cfgA m).N) : Memref sig .tc .vmem S1x1024 .f32 := spec0_5.stage ((cfgA m).slots t 5)
abbrev hst7 (t : Fin (cfgA m).N) : (st7 m t).IsWhole := hstage0_5 (((cfgA m).slots t 5).cast nbuf0_5)
abbrev st8 (t : Fin (cfgA m).N) : Memref sig .tc .vmem S1x1024 .f32 := spec0_6.stage ((cfgA m).slots t 6)
abbrev hst8 (t : Fin (cfgA m).N) : (st8 m t).IsWhole := hstage0_6 (((cfgA m).slots t 6).cast nbuf0_6)
abbrev st9 (t : Fin (cfgA m).N) : Memref sig .tc .vmem S1x1024 .f32 := spec0_7.stage ((cfgA m).slots t 7)
abbrev hst9 (t : Fin (cfgA m).N) : (st9 m t).IsWhole := hstage0_7 (((cfgA m).slots t 7).cast nbuf0_7)
abbrev st10 (t : Fin (cfgA m).N) : Memref sig .tc .vmem S128x1024 .f32 := spec0_8.stage ((cfgA m).slots t 8)
abbrev hst10 (t : Fin (cfgA m).N) : (st10 m t).IsWhole := hstage0_8 (((cfgA m).slots t 8).cast nbuf0_8)
abbrev st11 (t : Fin (cfgA m).N) : Memref sig .tc .vmem S6x1024 .f32 := spec0_9.stage ((cfgA m).slots t 9)
abbrev hst11 (t : Fin (cfgA m).N) : (st11 m t).IsWhole := hstage0_9 (((cfgA m).slots t 9).cast nbuf0_9)
abbrev st12 (t : Fin (cfgA m).N) : Memref sig .tc .vmem S1x1024 .f32 := spec0_10.stage ((cfgA m).slots t 10)
abbrev hst12 (t : Fin (cfgA m).N) : (st12 m t).IsWhole := hstage0_10 (((cfgA m).slots t 10).cast nbuf0_10)
abbrev st13 (t : Fin (cfgA m).N) : Memref sig .tc .vmem S128x1024 .fp8e4m3 := spec0_11.stage ((cfgA m).slots t 11)
abbrev hst13 (t : Fin (cfgA m).N) : (st13 m t).IsWhole := hstage0_11 (((cfgA m).slots t 11).cast nbuf0_11)
abbrev st14 (t : Fin (cfgA m).N) : Memref sig .tc .vmem S128x8 .f32 := spec0_12.stage ((cfgA m).slots t 12)
abbrev hst14 (t : Fin (cfgA m).N) : (st14 m t).IsWhole := hstage0_12 (((cfgA m).slots t 12).cast nbuf0_12)
abbrev st15 (t : Fin (cfgA m).N) : Memref sig .tc .vmem S6x1024 .i8 := spec0_13.stage ((cfgA m).slots t 13)
abbrev hst15 (t : Fin (cfgA m).N) : (st15 m t).IsWhole := hstage0_13 (((cfgA m).slots t 13).cast nbuf0_13)
abbrev st16 (t : Fin (cfgA m).N) : Memref sig .tc .vmem S6x1 .f32 := spec0_14.stage ((cfgA m).slots t 14)
abbrev hst16 (t : Fin (cfgA m).N) : (st16 m t).IsWhole := hstage0_14 (((cfgA m).slots t 14).cast nbuf0_14)

/-- What is said of the scratch buffers before each step, and of what a step leaves in each window's buffer given what it found. -/
structure Track where
  inv : ℕ → (S4096x1024.Idx → Elt F .bf16) → (S8x1024.Idx → Elt F .f32) → (S1x1024.Idx → Elt F .f32) → Prop
  rel : (w : Fin 15) → Fin (cfgA m).N → (Y X : ((cfgA m).win w).block.Idx → Elt F ((cfgA m).win w).elt) → Prop

variable (T : Track m)

/-- The invariant between the steps. -/
def Phi (c : Dev nD) (n : ℕ) : sProp 𝕄 :=
  iprop(∃ (f17 : Buf (Elt F) (S17.view.loc (c : Thread nD τ))) (f18 : Buf (Elt F) (S18.view.loc (c : Thread nD τ))) (f19 : Buf (Elt F) (S19.view.loc (c : Thread nD τ))),
    ⌜T.inv n f17 f18 f19⌝ ∗ at_ c S17 f17 ∗ at_ c S18 f18 ∗ at_ c S19 f19
      ∗ atq c (fullShare : PosShare TreeShare).right M1 (V m c main_arg8) ∗ ∃ r, prngReg c r)

/-- The proof data on core `c`. -/
def rdat (c : Dev nD) : Pipeline.RDat τ (Elt F) Unit ℕ (UR sig nD τ) ℕ (cfgA m) c where
  A w := V m c (Pipeline.arrRef spec0 w)
  after w t := T.rel w t
  Φ t := Phi m T c t.val
  q _ := fullShare
  owed _ := 0

/-- The body's runs keep the relation: from buffers in it, whatever one run leaves is in it. -/
def StepOK : Prop :=
  ∀ (c : Dev nD) (t : Fin (cfgA m).N) (Y : (w : Fin 15) → ((cfgA m).win w).block.Idx → Elt F ((cfgA m).win w).elt),
    (∀ w, (rdat m T c).Finds w t (Y w)) →
    ∀ (f2 : Buf (Elt F) ((st2 m t).view.loc (c : Thread nD τ))) (f3 : Buf (Elt F) ((st3 m t).view.loc (c : Thread nD τ))) (f4 : Buf (Elt F) ((st4 m t).view.loc (c : Thread nD τ))) (f5 : Buf (Elt F) ((st5 m t).view.loc (c : Thread nD τ))) (f6 : Buf (Elt F) ((st6 m t).view.loc (c : Thread nD τ))) (f7 : Buf (Elt F) ((st7 m t).view.loc (c : Thread nD τ))) (f8 : Buf (Elt F) ((st8 m t).view.loc (c : Thread nD τ))) (f9 : Buf (Elt F) ((st9 m t).view.loc (c : Thread nD τ))) (f10 : Buf (Elt F) ((st10 m t).view.loc (c : Thread nD τ))) (f11 : Buf (Elt F) ((st11 m t).view.loc (c : Thread nD τ))) (f12 : Buf (Elt F) ((st12 m t).view.loc (c : Thread nD τ))) (f13 : Buf (Elt F) ((st13 m t).view.loc (c : Thread nD τ))) (f14 : Buf (Elt F) ((st14 m t).view.loc (c : Thread nD τ))) (f15 : Buf (Elt F) ((st15 m t).view.loc (c : Thread nD τ))) (f16 : Buf (Elt F) ((st16 m t).view.loc (c : Thread nD τ))) (f17 : Buf (Elt F) (S17.view.loc (c : Thread nD τ))) (f18 : Buf (Elt F) (S18.view.loc (c : Thread nD τ))) (f19 : Buf (Elt F) (S19.view.loc (c : Thread nD τ))) (a17 : Buf (Elt F) (S17.view.loc (c : Thread nD τ))) (a18 : Buf (Elt F) (S18.view.loc (c : Thread nD τ))) (a19 : Buf (Elt F) (S19.view.loc (c : Thread nD τ))) (a10 : Buf (Elt F) ((st10 m t).view.loc (c : Thread nD τ))) (a13 : Buf (Elt F) ((st13 m t).view.loc (c : Thread nD τ))) (a14 : Buf (Elt F) ((st14 m t).view.loc (c : Thread nD τ))) (b10 : Buf (Elt F) ((st10 m t).view.loc (c : Thread nD τ))) (b13 : Buf (Elt F) ((st13 m t).view.loc (c : Thread nD τ))) (b14 : Buf (Elt F) ((st14 m t).view.loc (c : Thread nD τ))) (b18 : Buf (Elt F) (S18.view.loc (c : Thread nD τ))) (b19 : Buf (Elt F) (S19.view.loc (c : Thread nD τ))) (b11 : Buf (Elt F) ((st11 m t).view.loc (c : Thread nD τ))) (b12 : Buf (Elt F) ((st12 m t).view.loc (c : Thread nD τ))) (b15 : Buf (Elt F) ((st15 m t).view.loc (c : Thread nD τ))) (b16 : Buf (Elt F) ((st16 m t).view.loc (c : Thread nD τ))),
    (st2 m t).view.read (Elt F) f2 = Y 0 →
    (st3 m t).view.read (Elt F) f3 = Y 1 →
    (st4 m t).view.read (Elt F) f4 = Y 2 →
    (st5 m t).view.read (Elt F) f5 = Y 3 →
    (st6 m t).view.read (Elt F) f6 = Y 4 →
    (st7 m t).view.read (Elt F) f7 = Y 5 →
    (st8 m t).view.read (Elt F) f8 = Y 6 →
    (st9 m t).view.read (Elt F) f9 = Y 7 →
    (st10 m t).view.read (Elt F) f10 = Y 8 →
    (st11 m t).view.read (Elt F) f11 = Y 9 →
    (st12 m t).view.read (Elt F) f12 = Y 10 →
    (st13 m t).view.read (Elt F) f13 = Y 11 →
    (st14 m t).view.read (Elt F) f14 = Y 12 →
    (st15 m t).view.read (Elt F) f15 = Y 13 →
    (st16 m t).view.read (Elt F) f16 = Y 14 →
    T.inv t.val f17 f18 f19 →
    BodyPost (grid0.coords t) M1 (Memref.isWhole_whole _) (st2 m t) (hst2 m t) (st3 m t) (hst3 m t) (st4 m t) (hst4 m t) (st5 m t) (hst5 m t) (st6 m t) (hst6 m t) (st7 m t) (hst7 m t) (st8 m t) (hst8 m t) (st9 m t) (hst9 m t) (st10 m t) (hst10 m t) (st11 m t) (hst11 m t) (st12 m t) (hst12 m t) (st13 m t) (hst13 m t) (st14 m t) (hst14 m t) (st15 m t) (hst15 m t) (st16 m t) (hst16 m t) S17 (Memref.isWhole_whole _) S18 (Memref.isWhole_whole _) S19 (Memref.isWhole_whole _) c (fullShare : PosShare TreeShare).right (V m c main_arg8) f2 f3 f4 f5 f6 f7 f8 f9 f10 f11 f12 f13 f14 f15 f16 f17 f18 f19 a17 a18 a19 a10 a13 a14 b10 b13 b14 b18 b19 b11 b12 b15 b16 →
    T.inv (t.val + 1) a17 b18 b19 ∧ (∀ w : Fin 15, w.val < 8 → T.rel w t (Y w) (Y w))
      ∧ T.rel 8 t (Y 8) ((st10 m t).view.read (Elt F) b10)
      ∧ T.rel 9 t (Y 9) ((st11 m t).view.read (Elt F) b11)
      ∧ T.rel 10 t (Y 10) ((st12 m t).view.read (Elt F) b12)
      ∧ T.rel 11 t (Y 11) ((st13 m t).view.read (Elt F) b13)
      ∧ T.rel 12 t (Y 12) ((st14 m t).view.read (Elt F) b14)
      ∧ T.rel 13 t (Y 13) ((st15 m t).view.read (Elt F) b15)
      ∧ T.rel 14 t (Y 14) ((st16 m t).view.read (Elt F) b16)

/-- The body as the pipeline calls it at point `t`. -/
def bodyAt (t : Fin (cfgA m).N) : Prog (TpuEff nD τ sig (Elt F) Λ₀ .tc) PUnit :=
  cc0_down_ln_pool (grid0.coords t) M1 (Memref.isWhole_whole _) (st2 m t) (hst2 m t) (st3 m t) (hst3 m t) (st4 m t) (hst4 m t) (st5 m t) (hst5 m t) (st6 m t) (hst6 m t) (st7 m t) (hst7 m t) (st8 m t) (hst8 m t) (st9 m t) (hst9 m t) (st10 m t) (hst10 m t) (st11 m t) (hst11 m t) (st12 m t) (hst12 m t) (st13 m t) (hst13 m t) (st14 m t) (hst14 m t) (st15 m t) (hst15 m t) (st16 m t) (hst16 m t) S17 (Memref.isWhole_whole _) S18 (Memref.isWhole_whole _) S19 (Memref.isWhole_whole _)

theorem defs₀_row (t : Fin (cfgA m).N) : defs₀ (F := F) .tc (cfgA m).body ((cfgA m).bodyArgs t ((cfgA m).slots t)) = bodyAt m t := by
  unfold defs₀; rw [Defs.onTc_tc]; rfl

/-- The body at one step, from what the pipeline hands it to what it hands back. -/
theorem sound_body (hT : StepOK m T) (c : Dev nD) (t : Fin (cfgA m).N) (Y : (w : Fin 15) → ((cfgA m).win w).block.Idx → Elt F ((cfgA m).win w).elt)
    (hY : ∀ w, (rdat m T c).Finds w t (Y w)) :
    iprop(Phi m T c t.val ∗ (rdat m T c).owesAt () t.castSucc ∗ owns (c : Thread nD τ) (st2 m t) fullShare (Y 0) ∗ owns (c : Thread nD τ) (st3 m t) fullShare (Y 1) ∗ owns (c : Thread nD τ) (st4 m t) fullShare (Y 2) ∗ owns (c : Thread nD τ) (st5 m t) fullShare (Y 3) ∗ owns (c : Thread nD τ) (st6 m t) fullShare (Y 4) ∗ owns (c : Thread nD τ) (st7 m t) fullShare (Y 5) ∗ owns (c : Thread nD τ) (st8 m t) fullShare (Y 6) ∗ owns (c : Thread nD τ) (st9 m t) fullShare (Y 7) ∗ owns (c : Thread nD τ) (st10 m t) fullShare (Y 8) ∗ owns (c : Thread nD τ) (st11 m t) fullShare (Y 9) ∗ owns (c : Thread nD τ) (st12 m t) fullShare (Y 10) ∗ owns (c : Thread nD τ) (st13 m t) fullShare (Y 11) ∗ owns (c : Thread nD τ) (st14 m t) fullShare (Y 12) ∗ owns (c : Thread nD τ) (st15 m t) fullShare (Y 13) ∗ owns (c : Thread nD τ) (st16 m t) fullShare (Y 14))
      ⊢ wp frame (wpE (defs₀ (F := F)) Variants.none c none) Set.univ (bodyAt m t) fun _ =>
        iprop(Phi m T c (t.val + 1) ∗ (rdat m T c).owesAt () t.succ ∗ (∃ X, ⌜T.rel 0 t (Y 0) X⌝ ∗ owns (c : Thread nD τ) (st2 m t) fullShare X) ∗ (∃ X, ⌜T.rel 1 t (Y 1) X⌝ ∗ owns (c : Thread nD τ) (st3 m t) fullShare X) ∗ (∃ X, ⌜T.rel 2 t (Y 2) X⌝ ∗ owns (c : Thread nD τ) (st4 m t) fullShare X) ∗ (∃ X, ⌜T.rel 3 t (Y 3) X⌝ ∗ owns (c : Thread nD τ) (st5 m t) fullShare X) ∗ (∃ X, ⌜T.rel 4 t (Y 4) X⌝ ∗ owns (c : Thread nD τ) (st6 m t) fullShare X) ∗ (∃ X, ⌜T.rel 5 t (Y 5) X⌝ ∗ owns (c : Thread nD τ) (st7 m t) fullShare X) ∗ (∃ X, ⌜T.rel 6 t (Y 6) X⌝ ∗ owns (c : Thread nD τ) (st8 m t) fullShare X) ∗ (∃ X, ⌜T.rel 7 t (Y 7) X⌝ ∗ owns (c : Thread nD τ) (st9 m t) fullShare X) ∗ (∃ X, ⌜T.rel 8 t (Y 8) X⌝ ∗ owns (c : Thread nD τ) (st10 m t) fullShare X) ∗ (∃ X, ⌜T.rel 9 t (Y 9) X⌝ ∗ owns (c : Thread nD τ) (st11 m t) fullShare X) ∗ (∃ X, ⌜T.rel 10 t (Y 10) X⌝ ∗ owns (c : Thread nD τ) (st12 m t) fullShare X) ∗ (∃ X, ⌜T.rel 11 t (Y 11) X⌝ ∗ owns (c : Thread nD τ) (st13 m t) fullShare X) ∗ (∃ X, ⌜T.rel 12 t (Y 12) X⌝ ∗ owns (c : Thread nD τ) (st14 m t) fullShare X) ∗ (∃ X, ⌜T.rel 13 t (Y 13) X⌝ ∗ owns (c : Thread nD τ) (st15 m t) fullShare X) ∗ (∃ X, ⌜T.rel 14 t (Y 14) X⌝ ∗ owns (c : Thread nD τ) (st16 m t) fullShare X)) := by
  rw [show (rdat m T c).owesAt () t.succ = (rdat m T c).owesAt () t.castSucc from rfl]
  unfold Phi bodyAt owns
  iintro ⟨⟨%f17, %f18, %f19, %hinv, H17, H18, H19, H1, Hp⟩, HO, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩⟩
  iapply (body_run (grid0.coords t) M1 (Memref.isWhole_whole _) (st2 m t) (hst2 m t) (st3 m t) (hst3 m t) (st4 m t) (hst4 m t) (st5 m t) (hst5 m t) (st6 m t) (hst6 m t) (st7 m t) (hst7 m t) (st8 m t) (hst8 m t) (st9 m t) (hst9 m t) (st10 m t) (hst10 m t) (st11 m t) (hst11 m t) (st12 m t) (hst12 m t) (st13 m t) (hst13 m t) (st14 m t) (hst14 m t) (st15 m t) (hst15 m t) (st16 m t) (hst16 m t) S17 (Memref.isWhole_whole _) S18 (Memref.isWhole_whole _) S19 (Memref.isWhole_whole _) c (fullShare : PosShare TreeShare).right (V m c main_arg8) f2 f3 f4 f5 f6 f7 f8 f9 f10 f11 f12 f13 f14 f15 f16 f17 f18 f19)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro %a17 %a18 %a19 %a10 %a13 %a14 %b10 %b13 %b14 %b18 %b19 %b11 %b12 %b15 %b16 %hpost ⟨H1, H2, H3, H4, H5, H6, H7, H8, H9, H10, H11, H12, H13, H14, H15, H16, H17, H18, H19⟩
  obtain ⟨hinv', hin, r10, r11, r12, r13, r14, r15, r16⟩ := hT c t Y hY f2 f3 f4 f5 f6 f7 f8 f9 f10 f11 f12 f13 f14 f15 f16 f17 f18 f19 a17 a18 a19 a10 a13 a14 b10 b13 b14 b18 b19 b11 b12 b15 b16 h2 h3 h4 h5 h6 h7 h8 h9 h10 h11 h12 h13 h14 h15 h16 hinv hpost
  isplitl [H17 H18 H19 H1 Hp]
  · iexists a17, b18, b19
    isplitr; · ipureintro; exact hinv'
    isplitl [H17]; · iexact H17
    isplitl [H18]; · iexact H18
    isplitl [H19]; · iexact H19
    isplitl [H1]; · iexact H1
    iexact Hp
  isplitl [HO]; · iexact HO
  isplitl [H2]
  · iexists Y 0; isplitr; · ipureintro; exact hin 0 (by decide)
    iexists f2; isplitr; · ipureintro; exact h2
    iexact H2
  isplitl [H3]
  · iexists Y 1; isplitr; · ipureintro; exact hin 1 (by decide)
    iexists f3; isplitr; · ipureintro; exact h3
    iexact H3
  isplitl [H4]
  · iexists Y 2; isplitr; · ipureintro; exact hin 2 (by decide)
    iexists f4; isplitr; · ipureintro; exact h4
    iexact H4
  isplitl [H5]
  · iexists Y 3; isplitr; · ipureintro; exact hin 3 (by decide)
    iexists f5; isplitr; · ipureintro; exact h5
    iexact H5
  isplitl [H6]
  · iexists Y 4; isplitr; · ipureintro; exact hin 4 (by decide)
    iexists f6; isplitr; · ipureintro; exact h6
    iexact H6
  isplitl [H7]
  · iexists Y 5; isplitr; · ipureintro; exact hin 5 (by decide)
    iexists f7; isplitr; · ipureintro; exact h7
    iexact H7
  isplitl [H8]
  · iexists Y 6; isplitr; · ipureintro; exact hin 6 (by decide)
    iexists f8; isplitr; · ipureintro; exact h8
    iexact H8
  isplitl [H9]
  · iexists Y 7; isplitr; · ipureintro; exact hin 7 (by decide)
    iexists f9; isplitr; · ipureintro; exact h9
    iexact H9
  isplitl [H10]
  · iexists _; isplitr; · ipureintro; exact r10
    iexists b10; isplitr; · ipureintro; rfl
    iexact H10
  isplitl [H11]
  · iexists _; isplitr; · ipureintro; exact r11
    iexists b11; isplitr; · ipureintro; rfl
    iexact H11
  isplitl [H12]
  · iexists _; isplitr; · ipureintro; exact r12
    iexists b12; isplitr; · ipureintro; rfl
    iexact H12
  isplitl [H13]
  · iexists _; isplitr; · ipureintro; exact r13
    iexists b13; isplitr; · ipureintro; rfl
    iexact H13
  isplitl [H14]
  · iexists _; isplitr; · ipureintro; exact r14
    iexists b14; isplitr; · ipureintro; rfl
    iexact H14
  isplitl [H15]
  · iexists _; isplitr; · ipureintro; exact r15
    iexists b15; isplitr; · ipureintro; rfl
    iexact H15
  iexists _; isplitr; · ipureintro; exact r16
  iexists b16; isplitr; · ipureintro; rfl
  iexact H16

theorem body_obligation (hT : StepOK m T) (c : Dev nD) : (rdat m T c).BodyObligation (defs₀ (F := F)) Variants.none () Set.univ := fun t Y hY => by
  rw [bigSep_W0, bigSep_W0, defs₀_row]
  exact triple_restated (sound_body m T hT c t Y hY) rfl .rfl fun _ => .rfl

theorem prefHeld0_eq (c : Dev nD) (v : pre0.Contents (Elt F)) :
    (Pipeline.ΦT pre0 v c : sProp 𝕄) = iprop(((c : Thread nD τ).loc main_arg8) ↦{(fullShare : PosShare TreeShare).right} v 0) := by
  unfold Pipeline.ΦT Pipeline.prefHeld
  rw [BI.bigSep_eq_bigSepL_of_eq [(0 : Fin 1)] (by decide) (by decide)]; rfl

/-- The invariant before the first step, from the scratch buffers at anything. -/
theorem phi_zero (h0 : ∀ f17 f18 f19, T.inv 0 f17 f18 f19) (c : Dev nD) :
    iprop(Pipeline.ΦA spec0 c ∗ Pipeline.ΦT pre0 (tbl m) c) ⊢ (Phi m T c 0 : sProp 𝕄) := by
  rw [prefHeld0_eq]
  unfold Pipeline.ΦA Phi
  rw [scopedRest0_eq]
  obtain rfl : c = 0 := Subsingleton.elim _ _
  simp only [at_, atq, S17, S18, S19, M1, Memref.view_whole, View.set_whole]
  iintro ⟨⟨⟨⟨%f17, H17⟩, ⟨%f18, H18⟩, ⟨%f19, H19⟩⟩, Hp⟩, H1⟩
  iexists f17, f18, f19
  isplitr; · ipureintro; exact h0 _ _ _
  isplitl [H17]; · iexact H17
  isplitl [H18]; · iexact H18
  isplitl [H19]; · iexact H19
  isplitl [H1]; · iexact H1
  iexact Hp

/-- The class invariant after the last step: the scratch forgotten, the table let go. -/
theorem phi_last (c : Dev nD) (n : ℕ) : (Phi m T c n : sProp 𝕄) ⊢ Pipeline.ΦA spec0 c := by
  unfold Pipeline.ΦA Phi
  rw [scopedRest0_eq]
  simp only [at_, atq, S17, S18, S19, M1, Memref.view_whole, View.set_whole]
  iintro ⟨%f17, %f18, %f19, -, H17, H18, H19, -, Hp⟩
  isplitr [Hp]
  · isplitl [H17]; · iexists f17; iexact H17
    isplitl [H18]; · iexists f18; iexact H18
    iexists f19; iexact H19
  iexact Hp

set_option backward.isDefEq.respectTransparency.types false in
/-- Every execution terminates with the final arrays in the relation, the other buffers as the region found them and every
    semaphore at zero. -/
theorem run_main (hT : StepOK m T) (h0 : ∀ f17 f18 f19, T.inv 0 f17 f18 f19) :
    θ_run defs (onTc (τ := τ) (main (F := F))) (s₀ m ρ)
      (fun r => Pipeline.RDat.FramePost (cfgA m) (rdat m T) (V m) r ∧ r.2.sem = fun _ => 0) :=
  Pipeline.RDat.θ_run_frameP_track (Q' := _) pcfgs (adm m) (0 : Fin 1) launch0 defs₀ Variants.none (rdat m T) m ρ main
    (hbody := body_obligation m T hT)
    (hshare := fun c w => by unfold Pipeline.RDat.share; split <;> rfl)
    (howed := fun _ _ => rfl) (V := V m)
    (hmain := Pipeline.hmainP_prefix pcfgs 0 defs₀ Variants.none m main hostOps0 hostOps0_sub ⟨rfl, rfl, rfl, rfl, rfl, rfl⟩ main_chain)
    (hA := fun _ _ => rfl) (hpf := fun c k => by obtain rfl : c = 0 := Subsingleton.elim _ _; rfl)
    (hin := fun c => phi_zero m T h0 c) (hout := fun c => phi_last m T c _)
    (hQ' := fun _ h => h)

end Cert.Kernel.Hand

end
-- ==== Proof.BitsQuiet.lean ====
/-
  The arguments end unchanged, for any relation the runs keep; and the frame, at the relation that says nothing of the outputs.
-/
module

public import proofs.«01_k».proof.Proof.BitsFrame
public import Idealize.ShloMosaic.Lib.Pipeline.FrameBody
public import Idealize.ShloMosaic.Lib.Pipeline.Frame
public import Idealize.ShloMosaic.Lib.Tactic
public import Idealize.ShloMosaic.Lib.WordCmp
public import Idealize.ShloMosaic.Lib.StableHlo.RunRead

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-- A buffer no host operation writes is as at launch when the region is entered. -/
theorem V_unwritten (c : Dev nD) (b : Ref sig .tc) (hb : b ∉ [main_v0, main_v1, main_v2, main_v3, main_v4, main_v5]) :
    V m c b = m ((c : Thread nD τ).loc b) :=
  StableHlo.after_unwritten [main_v0, main_v1, main_v2, main_v3, main_v4, main_v5] rfl hb _

variable {m}

/-- The arguments after the run. -/
theorem args_unchanged {T : Track m} {r : PUnit × MemSt nD τ sig (Elt F)} (h : Pipeline.RDat.FramePost (cfgA m) (rdat m T) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by exact (by decide : ∀ w : Fin 15, (spec0 w).arr.view.ref ≠ main_arg0)))).trans (V_unwritten m c main_arg0 (by decide)),
    ((h c).2 main_arg1 (Pipeline.mem_restRefs_of main_arg1 (by decide) (by exact (by decide : ∀ w : Fin 15, (spec0 w).arr.view.ref ≠ main_arg1)))).trans (V_unwritten m c main_arg1 (by decide)),
    ((h c).2 main_arg2 (Pipeline.mem_restRefs_of main_arg2 (by decide) (by exact (by decide : ∀ w : Fin 15, (spec0 w).arr.view.ref ≠ main_arg2)))).trans (V_unwritten m c main_arg2 (by decide)),
    (h.arr_in c 3 rfl).trans (V_unwritten m c main_arg3 (by decide)),
    (h.arr_in c 4 rfl).trans (V_unwritten m c main_arg4 (by decide)),
    ((h c).2 main_arg5 (Pipeline.mem_restRefs_of main_arg5 (by decide) (by exact (by decide : ∀ w : Fin 15, (spec0 w).arr.view.ref ≠ main_arg5)))).trans (V_unwritten m c main_arg5 (by decide)),
    ((h c).2 main_arg6 (Pipeline.mem_restRefs_of main_arg6 (by decide) (by exact (by decide : ∀ w : Fin 15, (spec0 w).arr.view.ref ≠ main_arg6)))).trans (V_unwritten m c main_arg6 (by decide)),
    ((h c).2 main_arg7 (Pipeline.mem_restRefs_of main_arg7 (by decide) (by exact (by decide : ∀ w : Fin 15, (spec0 w).arr.view.ref ≠ main_arg7)))).trans (V_unwritten m c main_arg7 (by decide)),
    ((h c).2 main_arg8 (Pipeline.mem_restRefs_of main_arg8 (by decide) (by exact (by decide : ∀ w : Fin 15, (spec0 w).arr.view.ref ≠ main_arg8)))).trans (V_unwritten m c main_arg8 (by decide))⟩

variable (m)

/-- The relation that says nothing but that an input's buffer is left as found. -/
def quiet : Track m where
  inv _ _ _ _ := True
  rel w _ Y X := w.val < 8 → X = Y

theorem quiet_ok : StepOK m (quiet m) := by
  unfold StepOK quiet
  intros
  refine ⟨trivial, fun _ _ _ => rfl, ?_, ?_, ?_, ?_, ?_, ?_, ?_⟩ <;> exact fun h => absurd h (by decide)

/-- The frame: the run terminates, the arguments end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => args_unchanged h.1 c, h.2⟩)
    (run_main m ρ (quiet m) (quiet_ok m) fun _ _ _ => trivial)

end Cert.Kernel.Hand

end
-- ==== Proof.KRegions.lean ====
/-
  The kernel's body cut at its four conditional regions: what the first grid step does (`initProg`), what a tile with no
  valid row does (`skipProg`), what a tile with valid rows does (`tileProg`), what the last grid step does (`lastProg`).
  Each is the printed region's skeleton; `part95_eq` and `body_eq` say the printed body is the four under their conditions.
-/
module

public import proofs.«01_k».proof.Proof.Gen.KernelIdeal.Launch
public import proofs.«01_k».proof.Proof.Gen.KernelIdeal.Skeleton
public import Idealize.ShloMosaic.Lib.Pipeline.Frame

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

/-- A memref's buffer on core `c`, held at share `q` with contents `f`. -/
abbrev atq (c : Dev nD) (q : PosShare TreeShare) {sp : Space} {S : Shape} {e : EltTy} (M : Memref sig .tc sp S e) (f : Buf (Elt F) (M.view.loc (c : Thread nD τ))) : sProp 𝕄 :=
  M.view.loc (c : Thread nD τ) ↦[M.view.set]{q} f

/-- A memref's buffer on core `c`, held whole with contents `f`. -/
abbrev at_ (c : Dev nD) {sp : Space} {S : Shape} {e : EltTy} (M : Memref sig .tc sp S e) (f : Buf (Elt F) (M.view.loc (c : Thread nD τ))) : sProp 𝕄 :=
  atq c fullShare M f

variable (i : grid0.Coords) (arg1 : Memref sig .tc .smem S6 .i32) (harg1 : arg1.IsWhole) (arg2 : Memref sig .tc .vmem S128x1024 .bf16) (harg2 : arg2.IsWhole) (arg3 : Memref sig .tc .vmem S128x4096 .fp8e4m3) (harg3 : arg3.IsWhole) (arg4 : Memref sig .tc .vmem S128x32 .f32) (harg4 : arg4.IsWhole) (arg5 : Memref sig .tc .vmem S4096x1024 .fp8e4m3) (harg5 : arg5.IsWhole) (arg6 : Memref sig .tc .smem S32x8 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S6x1024 .f32) (harg11 : arg11.IsWhole) (arg12 : Memref sig .tc .vmem S1x1024 .f32) (harg12 : arg12.IsWhole) (arg13 : Memref sig .tc .vmem S128x1024 .fp8e4m3) (harg13 : arg13.IsWhole) (arg14 : Memref sig .tc .vmem S128x8 .f32) (harg14 : arg14.IsWhole) (arg15 : Memref sig .tc .vmem S6x1024 .i8) (harg15 : arg15.IsWhole) (arg16 : Memref sig .tc .vmem S6x1 .f32) (harg16 : arg16.IsWhole) (arg17 : Memref sig .tc .vmem S4096x1024 .bf16) (harg17 : arg17.IsWhole) (arg18 : Memref sig .tc .vmem S8x1024 .f32) (harg18 : arg18.IsWhole) (arg19 : Memref sig .tc .vmem S1x1024 .f32) (harg19 : arg19.IsWhole)

/-- The first grid step: both accumulators zeroed and the weight dequantised block by block. -/
def initProg : Prog (TpuEff nD τ sig (Elt F) Λ₀ .tc) PUnit := do
  k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let v2099 : FVec F S128x128 .bf16 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v2131, v2133⟩ : Σ' (v2131 : FVec F S128x128 .bf16), F .bf16 ← k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2099
  let v2167 : FVec F S128x128 .bf16 ← k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2131 v2133
  k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2167
  let v2234 : FVec F S128x128 .bf16 ← k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v2266, v2268⟩ : Σ' (v2266 : FVec F S128x128 .bf16), F .bf16 ← k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2234
  let v2302 : FVec F S128x128 .bf16 ← k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2266 v2268
  k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2302
  let v2337 : Vec F S128x128 .fp8e4m3 ← Prog.lift (.load arg5 (Rect.unit (s := S4096x1024) ![3968, 768] S128x128.size inb_S4096x1024_S128x128_3968_768).toLoadRect (View.loadsAt_vmem h_S128x128))
  let v2339 : Elt F .f32 ← smemLoad arg6 (Rect.unit (s := S32x8) ![31, 6] S1x1.size inb_S32x8_S1x1_31_6) numel1_S1x1 rfl
  let v2343 : Vec F S128x128 .bf16 ← Prog.lift (.load arg17 (Rect.unit (s := S4096x1024) ![3968, 768] S128x128.size inb_S4096x1024_S128x128_3968_768).toLoadRect (View.loadsAt_vmem h_S128x128))
  Prog.lift (.store arg17 (Rect.unit (s := S4096x1024) ![3968, 768] S128x128.size inb_S4096x1024_S128x128_3968_768) (k0_pay444 v2337 v2339) Finset.univ (View.stores_vmem h_S128x128 (harg17.storeExact_slice rfl _ packedbf16_S4096x1024_S128x128_3968_768) (fun _ => rfl)) (.inl rfl))
  let v2346 : Vec F S128x128 .fp8e4m3 ← Prog.lift (.load arg5 (Rect.unit (s := S4096x1024) ![3968, 896] S128x128.size inb_S4096x1024_S128x128_3968_896).toLoadRect (View.loadsAt_vmem h_S128x128))
  let v2348 : Elt F .f32 ← smemLoad arg6 (Rect.unit (s := S32x8) ![31, 7] S1x1.size inb_S32x8_S1x1_31_7) numel1_S1x1 rfl
  let v2352 : Vec F S128x128 .bf16 ← Prog.lift (.load arg17 (Rect.unit (s := S4096x1024) ![3968, 896] S128x128.size inb_S4096x1024_S128x128_3968_896).toLoadRect (View.loadsAt_vmem h_S128x128))
  Prog.lift (.store arg17 (Rect.unit (s := S4096x1024) ![3968, 896] S128x128.size inb_S4096x1024_S128x128_3968_896) (k0_pay445 v2346 v2348) Finset.univ (View.stores_vmem h_S128x128 (harg17.storeExact_slice rfl _ packedbf16_S4096x1024_S128x128_3968_896) (fun _ => rfl)) (.inl rfl))
  pure ⟨⟩

/-- The same with what comes after it. -/
def initThen{α : Type} (k : PUnit.{1} → Prog (TpuEff nD τ sig (Elt F) Λ₀ .tc) α) : Prog (TpuEff nD τ sig (Elt F) Λ₀ .tc) α := do
  k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let v2099 : FVec F S128x128 .bf16 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v2131, v2133⟩ : Σ' (v2131 : FVec F S128x128 .bf16), F .bf16 ← k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2099
  let v2167 : FVec F S128x128 .bf16 ← k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2131 v2133
  k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2167
  let v2234 : FVec F S128x128 .bf16 ← k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v2266, v2268⟩ : Σ' (v2266 : FVec F S128x128 .bf16), F .bf16 ← k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2234
  let v2302 : FVec F S128x128 .bf16 ← k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2266 v2268
  k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2302
  let v2337 : Vec F S128x128 .fp8e4m3 ← Prog.lift (.load arg5 (Rect.unit (s := S4096x1024) ![3968, 768] S128x128.size inb_S4096x1024_S128x128_3968_768).toLoadRect (View.loadsAt_vmem h_S128x128))
  let v2339 : Elt F .f32 ← smemLoad arg6 (Rect.unit (s := S32x8) ![31, 6] S1x1.size inb_S32x8_S1x1_31_6) numel1_S1x1 rfl
  let v2343 : Vec F S128x128 .bf16 ← Prog.lift (.load arg17 (Rect.unit (s := S4096x1024) ![3968, 768] S128x128.size inb_S4096x1024_S128x128_3968_768).toLoadRect (View.loadsAt_vmem h_S128x128))
  Prog.lift (.store arg17 (Rect.unit (s := S4096x1024) ![3968, 768] S128x128.size inb_S4096x1024_S128x128_3968_768) (k0_pay444 v2337 v2339) Finset.univ (View.stores_vmem h_S128x128 (harg17.storeExact_slice rfl _ packedbf16_S4096x1024_S128x128_3968_768) (fun _ => rfl)) (.inl rfl))
  let v2346 : Vec F S128x128 .fp8e4m3 ← Prog.lift (.load arg5 (Rect.unit (s := S4096x1024) ![3968, 896] S128x128.size inb_S4096x1024_S128x128_3968_896).toLoadRect (View.loadsAt_vmem h_S128x128))
  let v2348 : Elt F .f32 ← smemLoad arg6 (Rect.unit (s := S32x8) ![31, 7] S1x1.size inb_S32x8_S1x1_31_7) numel1_S1x1 rfl
  let v2352 : Vec F S128x128 .bf16 ← Prog.lift (.load arg17 (Rect.unit (s := S4096x1024) ![3968, 896] S128x128.size inb_S4096x1024_S128x128_3968_896).toLoadRect (View.loadsAt_vmem h_S128x128))
  Prog.lift (.store arg17 (Rect.unit (s := S4096x1024) ![3968, 896] S128x128.size inb_S4096x1024_S128x128_3968_896) (k0_pay445 v2346 v2348) Finset.univ (View.stores_vmem h_S128x128 (harg17.storeExact_slice rfl _ packedbf16_S4096x1024_S128x128_3968_896) (fun _ => rfl)) (.inl rfl))
  k ⟨⟩

theorem initThen_eq {α : Type} (k : PUnit.{1} → Prog (TpuEff nD τ sig (Elt F) Λ₀ .tc) α) : initThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k = initProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= k := by
  unfold initThen initProg
  simp only [bind_assoc, pure_bind]

/-- A tile with no valid row: its three result blocks filled with constants. -/
def skipProg : Prog (TpuEff nD τ sig (Elt F) Λ₀ .tc) PUnit := do
  let v44 : Vec F S128x1024 .f32 ← Prog.lift (.load arg10 (Rect.unit (s := S128x1024) ![0, 0] S128x1024.size inb_S128x1024_S128x1024_0_0).toLoadRect (View.loadsAt_vmem h_S128x1024))
  Prog.lift (.store arg10 (Rect.unit (s := S128x1024) ![0, 0] S128x1024.size inb_S128x1024_S128x1024_0_0) (k0_pay446 (F := F)) Finset.univ (View.stores_vmem_bits_univ h_S128x1024 rfl) (.inl rfl))
  let v46 : Vec F S128x1024 .fp8e4m3 ← Prog.lift (.load arg13 (Rect.unit (s := S128x1024) ![0, 0] S128x1024.size inb_S128x1024_S128x1024_0_0).toLoadRect (View.loadsAt_vmem h_S128x1024))
  Prog.lift (.store arg13 (Rect.unit (s := S128x1024) ![0, 0] S128x1024.size inb_S128x1024_S128x1024_0_0) (k0_pay447 (F := F)) Finset.univ (View.stores_vmem h_S128x1024 (harg13.storeExact_slice rfl _ packedfp8e4m3_S128x1024_S128x1024_0_0) (fun _ => rfl)) (.inl rfl))
  let v48 : Vec F S128x8 .f32 ← Prog.lift (.load arg14 (Rect.unit (s := S128x8) ![0, 0] S128x8.size inb_S128x8_S128x8_0_0).toLoadRect (View.loadsAt_vmem h_S128x8))
  Prog.lift (.store arg14 (Rect.unit (s := S128x8) ![0, 0] S128x8.size inb_S128x8_S128x8_0_0) (k0_pay448 (F := F)) Finset.univ (View.stores_vmem_bits_univ h_S128x8 rfl) (.inl rfl))
  pure ⟨⟩

/-- The same with what comes after it. -/
def skipThen{α : Type} (k : PUnit.{1} → Prog (TpuEff nD τ sig (Elt F) Λ₀ .tc) α) : Prog (TpuEff nD τ sig (Elt F) Λ₀ .tc) α := do
  let v44 : Vec F S128x1024 .f32 ← Prog.lift (.load arg10 (Rect.unit (s := S128x1024) ![0, 0] S128x1024.size inb_S128x1024_S128x1024_0_0).toLoadRect (View.loadsAt_vmem h_S128x1024))
  Prog.lift (.store arg10 (Rect.unit (s := S128x1024) ![0, 0] S128x1024.size inb_S128x1024_S128x1024_0_0) (k0_pay446 (F := F)) Finset.univ (View.stores_vmem_bits_univ h_S128x1024 rfl) (.inl rfl))
  let v46 : Vec F S128x1024 .fp8e4m3 ← Prog.lift (.load arg13 (Rect.unit (s := S128x1024) ![0, 0] S128x1024.size inb_S128x1024_S128x1024_0_0).toLoadRect (View.loadsAt_vmem h_S128x1024))
  Prog.lift (.store arg13 (Rect.unit (s := S128x1024) ![0, 0] S128x1024.size inb_S128x1024_S128x1024_0_0) (k0_pay447 (F := F)) Finset.univ (View.stores_vmem h_S128x1024 (harg13.storeExact_slice rfl _ packedfp8e4m3_S128x1024_S128x1024_0_0) (fun _ => rfl)) (.inl rfl))
  let v48 : Vec F S128x8 .f32 ← Prog.lift (.load arg14 (Rect.unit (s := S128x8) ![0, 0] S128x8.size inb_S128x8_S128x8_0_0).toLoadRect (View.loadsAt_vmem h_S128x8))
  Prog.lift (.store arg14 (Rect.unit (s := S128x8) ![0, 0] S128x8.size inb_S128x8_S128x8_0_0) (k0_pay448 (F := F)) Finset.univ (View.stores_vmem_bits_univ h_S128x8 rfl) (.inl rfl))
  k ⟨⟩

theorem skipThen_eq {α : Type} (k : PUnit.{1} → Prog (TpuEff nD τ sig (Elt F) Λ₀ .tc) α) : skipThen arg10 arg13 harg13 arg14 k = skipProg arg10 arg13 harg13 arg14 >>= k := by
  unfold skipThen skipProg
  simp only [bind_assoc, pure_bind]

/-- A tile with `v30 > 0` valid rows. -/
def tileProg (v16 v30 : BitVec 32) : Prog (TpuEff nD τ sig (Elt F) Λ₀ .tc) PUnit := do
  let ⟨v45, v51, v57, v63, v69, v75, v81, v84, v86⟩ : Σ' (v45 : FVec F S128x32 .bf16) (v51 : FVec F S128x128 .bf16) (v57 : FVec F S128x128 .bf16) (v63 : FVec F S128x128 .bf16) (v69 : FVec F S128x128 .bf16) (v75 : FVec F S128x128 .bf16) (v81 : FVec F S128x128 .bf16) (v84 : FVec F S128x128 .bf16), FVec F S128x128 .bf16 ← k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v87, v93, v99, v105, v111, v117, v123, v129, v130⟩ : Σ' (v87 : FVec F S128x128 .bf16) (v93 : FVec F S128x128 .bf16) (v99 : FVec F S128x128 .bf16) (v105 : FVec F S128x128 .bf16) (v111 : FVec F S128x128 .bf16) (v117 : FVec F S128x128 .bf16) (v123 : FVec F S128x128 .bf16) (v129 : FVec F S128x128 .bf16), Vec F S128x128 .fp8e4m3 ← k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v45 v84 v86
  let ⟨v135, v141, v147, v153, v159, v165, v171, v174, v176⟩ : Σ' (v135 : FVec F S128x128 .bf16) (v141 : FVec F S128x128 .bf16) (v147 : FVec F S128x128 .bf16) (v153 : FVec F S128x128 .bf16) (v159 : FVec F S128x128 .bf16) (v165 : FVec F S128x128 .bf16) (v171 : FVec F S128x128 .bf16) (v174 : FVec F S128x128 .bf16), FVec F S128x128 .bf16 ← k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v45 v130
  let ⟨v177, v183, v189, v195, v201, v207, v213, v219, v220⟩ : Σ' (v177 : FVec F S128x128 .bf16) (v183 : FVec F S128x128 .bf16) (v189 : FVec F S128x128 .bf16) (v195 : FVec F S128x128 .bf16) (v201 : FVec F S128x128 .bf16) (v207 : FVec F S128x128 .bf16) (v213 : FVec F S128x128 .bf16) (v219 : FVec F S128x128 .bf16), Vec F S128x128 .fp8e4m3 ← k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v45 v174 v176
  let ⟨v248, v251, v263⟩ : Σ' (v248 : FVec F S128x1024 .f32) (v251 : IVec S128x1 1), FVec F S1x1024 .f32 ← k0_part74 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v30 v45 v51 v57 v63 v69 v75 v81 v87 v93 v99 v105 v111 v117 v123 v129 v135 v141 v147 v153 v159 v165 v171 v177 v183 v189 v195 v201 v207 v213 v219 v220
  let ⟨v291, v302, v304⟩ : Σ' (v291 : FVec F S128x1024 .f32) (v302 : FVec F S128x128 .f32), FVec F S128 .f32 ← k0_part75 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v248 v251 v263
  let ⟨v307, v344, v348⟩ : Σ' (v307 : FVec F S128x1 .f32) (v344 : IVec S128x1 32), IVec S128x1 32 ← k0_part76 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v304
  let ⟨v390, v391, v392⟩ : Σ' (v390 : IVec S128x1 32) (v391 : FVec F S128x1 .f32), IVec S128x1 32 ← k0_part77 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v307 v344 v348
  let ⟨v403, v408, v427, v433, v435⟩ : Σ' (v403 : FVec F S128x128 .f32) (v408 : FVec F S128x1 .f32) (v427 : IVec S128x1 32) (v433 : IVec S128x1 1), IVec S128x1 32 ← k0_part78 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v302 v390 v392
  let ⟨v472, v478, v480⟩ : Σ' (v472 : IVec S128x1 32) (v478 : IVec S128x1 1), IVec S128x1 32 ← k0_part79 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v408 v427 v433 v435
  let ⟨v492, v504, v509, v519, v521, c23_i32_149⟩ : Σ' (v492 : FVec F S128x1 .f32) (v504 : FVec F S128x128 .f32) (v509 : FVec F S128x1 .f32) (v519 : IVec S128x1 32) (v521 : IVec S128x1 32), BitVec 32 ← k0_part80 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v403 v472 v478 v480
  let ⟨v564, v566, c23_i32_164⟩ : Σ' (v564 : IVec S128x1 32) (v566 : IVec S128x1 32), BitVec 32 ← k0_part81 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v509 v519 v521 c23_i32_149
  let ⟨v593, v605, v608, v609⟩ : Σ' (v593 : FVec F S128x1 .f32) (v605 : FVec F S128x128 .f32) (v608 : FVec F S128x1 .f32), FVec F S128x1 .f32 ← k0_part82 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v504 v509 v564 v566 c23_i32_164
  let ⟨v610, v647, v653, c8_i32_196⟩ : Σ' (v610 : FVec F S128x1 .f32) (v647 : IVec S128x1 32) (v653 : IVec S128x1 1), BitVec 32 ← k0_part83 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v608 v609
  let ⟨v694, v698⟩ : Σ' (v694 : FVec F S128x1 .f32), FVec F S128x128 .f32 ← k0_part84 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v610 v647 v653 c8_i32_196
  let ⟨v706, v711, v739, v740⟩ : Σ' (v706 : FVec F S128x128 .f32) (v711 : FVec F S128x1 .f32) (v739 : IVec S128x1 32), IVec S128x1 32 ← k0_part85 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v605 v698
  let ⟨v784, v785⟩ : Σ' (v784 : IVec S128x1 32), IVec S128x1 32 ← k0_part86 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v711 v739 v740
  let ⟨v795, v807, v812, v822, v827⟩ : Σ' (v795 : FVec F S128x1 .f32) (v807 : FVec F S128x128 .f32) (v812 : FVec F S128x1 .f32) (v822 : IVec S128x1 32), FVec F S128x1 .f32 ← k0_part87 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v706 v784 v785
  let ⟨v867, v872⟩ : Σ' (v867 : IVec S128x1 32), FVec F S128x1 .f32 ← k0_part88 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v812 v822 v827
  let ⟨v896, v908, v913, v914⟩ : Σ' (v896 : FVec F S128x1 .f32) (v908 : FVec F S128x128 .f32) (v913 : FVec F S128x1 .f32), IVec S128x1 32 ← k0_part89 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v807 v812 v867 v872
  let v959 : IVec S128x1 32 ← k0_part90 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v913 v914
  let ⟨v997, v1002, cst_323, cst_324⟩ : Σ' (v997 : FVec F S128x1 .f32) (v1002 : FVec F S128x128 .f32) (cst_323 : F .f32), F .f32 ← k0_part91 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v908 v913 v959
  let ⟨v1009, v1014, v1042, v1044, v1045⟩ : Σ' (v1009 : FVec F S128x128 .f32) (v1014 : FVec F S128x1 .f32) (v1042 : IVec S128x1 32) (v1044 : IVec S128x1 32), IVec S128x1 32 ← k0_part92 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v1002 cst_323 cst_324
  let ⟨v1089, v1090⟩ : Σ' (v1089 : IVec S128x1 32), IVec S128x1 32 ← k0_part93 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1014 v1042 v1044 v1045
  let v1109 : Vec F S128x128 .fp8e4m3 ← Prog.lift (.load arg13 (Rect.unit (s := S128x1024) ![0, 896] S128x128.size inb_S128x1024_S128x128_0_896).toLoadRect (View.loadsAt_vmem h_S128x128))
  Prog.lift (.store arg13 (Rect.unit (s := S128x1024) ![0, 896] S128x128.size inb_S128x1024_S128x128_0_896) (k0_pay2 v1009 v1089 v1090) Finset.univ (View.stores_vmem h_S128x128 (harg13.storeExact_slice rfl _ packedfp8e4m3_S128x1024_S128x128_0_896) (fun _ => rfl)) (.inl rfl))
  let v1111 : Vec F S128x8 .f32 ← Prog.lift (.load arg14 (Rect.unit (s := S128x8) ![0, 0] S128x8.size inb_S128x8_S128x8_0_0).toLoadRect (View.loadsAt_vmem h_S128x8))
  Prog.lift (.store arg14 (Rect.unit (s := S128x8) ![0, 0] S128x8.size inb_S128x8_S128x8_0_0) (k0_pay3 v391 v492 v593 v694 v795 v896 v997 v1089 v1090) Finset.univ (View.stores_vmem_bits_univ h_S128x8 rfl) (.inl rfl))
  pure ⟨⟩

/-- The same with what comes after it. -/
def tileThen{α : Type} (v16 v30 : BitVec 32) (k : PUnit.{1} → Prog (TpuEff nD τ sig (Elt F) Λ₀ .tc) α) : Prog (TpuEff nD τ sig (Elt F) Λ₀ .tc) α := do
  let ⟨v45, v51, v57, v63, v69, v75, v81, v84, v86⟩ : Σ' (v45 : FVec F S128x32 .bf16) (v51 : FVec F S128x128 .bf16) (v57 : FVec F S128x128 .bf16) (v63 : FVec F S128x128 .bf16) (v69 : FVec F S128x128 .bf16) (v75 : FVec F S128x128 .bf16) (v81 : FVec F S128x128 .bf16) (v84 : FVec F S128x128 .bf16), FVec F S128x128 .bf16 ← k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v87, v93, v99, v105, v111, v117, v123, v129, v130⟩ : Σ' (v87 : FVec F S128x128 .bf16) (v93 : FVec F S128x128 .bf16) (v99 : FVec F S128x128 .bf16) (v105 : FVec F S128x128 .bf16) (v111 : FVec F S128x128 .bf16) (v117 : FVec F S128x128 .bf16) (v123 : FVec F S128x128 .bf16) (v129 : FVec F S128x128 .bf16), Vec F S128x128 .fp8e4m3 ← k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v45 v84 v86
  let ⟨v135, v141, v147, v153, v159, v165, v171, v174, v176⟩ : Σ' (v135 : FVec F S128x128 .bf16) (v141 : FVec F S128x128 .bf16) (v147 : FVec F S128x128 .bf16) (v153 : FVec F S128x128 .bf16) (v159 : FVec F S128x128 .bf16) (v165 : FVec F S128x128 .bf16) (v171 : FVec F S128x128 .bf16) (v174 : FVec F S128x128 .bf16), FVec F S128x128 .bf16 ← k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v45 v130
  let ⟨v177, v183, v189, v195, v201, v207, v213, v219, v220⟩ : Σ' (v177 : FVec F S128x128 .bf16) (v183 : FVec F S128x128 .bf16) (v189 : FVec F S128x128 .bf16) (v195 : FVec F S128x128 .bf16) (v201 : FVec F S128x128 .bf16) (v207 : FVec F S128x128 .bf16) (v213 : FVec F S128x128 .bf16) (v219 : FVec F S128x128 .bf16), Vec F S128x128 .fp8e4m3 ← k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v45 v174 v176
  let ⟨v248, v251, v263⟩ : Σ' (v248 : FVec F S128x1024 .f32) (v251 : IVec S128x1 1), FVec F S1x1024 .f32 ← k0_part74 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v30 v45 v51 v57 v63 v69 v75 v81 v87 v93 v99 v105 v111 v117 v123 v129 v135 v141 v147 v153 v159 v165 v171 v177 v183 v189 v195 v201 v207 v213 v219 v220
  let ⟨v291, v302, v304⟩ : Σ' (v291 : FVec F S128x1024 .f32) (v302 : FVec F S128x128 .f32), FVec F S128 .f32 ← k0_part75 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v248 v251 v263
  let ⟨v307, v344, v348⟩ : Σ' (v307 : FVec F S128x1 .f32) (v344 : IVec S128x1 32), IVec S128x1 32 ← k0_part76 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v304
  let ⟨v390, v391, v392⟩ : Σ' (v390 : IVec S128x1 32) (v391 : FVec F S128x1 .f32), IVec S128x1 32 ← k0_part77 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v307 v344 v348
  let ⟨v403, v408, v427, v433, v435⟩ : Σ' (v403 : FVec F S128x128 .f32) (v408 : FVec F S128x1 .f32) (v427 : IVec S128x1 32) (v433 : IVec S128x1 1), IVec S128x1 32 ← k0_part78 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v302 v390 v392
  let ⟨v472, v478, v480⟩ : Σ' (v472 : IVec S128x1 32) (v478 : IVec S128x1 1), IVec S128x1 32 ← k0_part79 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v408 v427 v433 v435
  let ⟨v492, v504, v509, v519, v521, c23_i32_149⟩ : Σ' (v492 : FVec F S128x1 .f32) (v504 : FVec F S128x128 .f32) (v509 : FVec F S128x1 .f32) (v519 : IVec S128x1 32) (v521 : IVec S128x1 32), BitVec 32 ← k0_part80 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v403 v472 v478 v480
  let ⟨v564, v566, c23_i32_164⟩ : Σ' (v564 : IVec S128x1 32) (v566 : IVec S128x1 32), BitVec 32 ← k0_part81 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v509 v519 v521 c23_i32_149
  let ⟨v593, v605, v608, v609⟩ : Σ' (v593 : FVec F S128x1 .f32) (v605 : FVec F S128x128 .f32) (v608 : FVec F S128x1 .f32), FVec F S128x1 .f32 ← k0_part82 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v504 v509 v564 v566 c23_i32_164
  let ⟨v610, v647, v653, c8_i32_196⟩ : Σ' (v610 : FVec F S128x1 .f32) (v647 : IVec S128x1 32) (v653 : IVec S128x1 1), BitVec 32 ← k0_part83 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v608 v609
  let ⟨v694, v698⟩ : Σ' (v694 : FVec F S128x1 .f32), FVec F S128x128 .f32 ← k0_part84 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v610 v647 v653 c8_i32_196
  let ⟨v706, v711, v739, v740⟩ : Σ' (v706 : FVec F S128x128 .f32) (v711 : FVec F S128x1 .f32) (v739 : IVec S128x1 32), IVec S128x1 32 ← k0_part85 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v605 v698
  let ⟨v784, v785⟩ : Σ' (v784 : IVec S128x1 32), IVec S128x1 32 ← k0_part86 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v711 v739 v740
  let ⟨v795, v807, v812, v822, v827⟩ : Σ' (v795 : FVec F S128x1 .f32) (v807 : FVec F S128x128 .f32) (v812 : FVec F S128x1 .f32) (v822 : IVec S128x1 32), FVec F S128x1 .f32 ← k0_part87 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v706 v784 v785
  let ⟨v867, v872⟩ : Σ' (v867 : IVec S128x1 32), FVec F S128x1 .f32 ← k0_part88 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v812 v822 v827
  let ⟨v896, v908, v913, v914⟩ : Σ' (v896 : FVec F S128x1 .f32) (v908 : FVec F S128x128 .f32) (v913 : FVec F S128x1 .f32), IVec S128x1 32 ← k0_part89 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v807 v812 v867 v872
  let v959 : IVec S128x1 32 ← k0_part90 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v913 v914
  let ⟨v997, v1002, cst_323, cst_324⟩ : Σ' (v997 : FVec F S128x1 .f32) (v1002 : FVec F S128x128 .f32) (cst_323 : F .f32), F .f32 ← k0_part91 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v908 v913 v959
  let ⟨v1009, v1014, v1042, v1044, v1045⟩ : Σ' (v1009 : FVec F S128x128 .f32) (v1014 : FVec F S128x1 .f32) (v1042 : IVec S128x1 32) (v1044 : IVec S128x1 32), IVec S128x1 32 ← k0_part92 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v291 v1002 cst_323 cst_324
  let ⟨v1089, v1090⟩ : Σ' (v1089 : IVec S128x1 32), IVec S128x1 32 ← k0_part93 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1014 v1042 v1044 v1045
  let v1109 : Vec F S128x128 .fp8e4m3 ← Prog.lift (.load arg13 (Rect.unit (s := S128x1024) ![0, 896] S128x128.size inb_S128x1024_S128x128_0_896).toLoadRect (View.loadsAt_vmem h_S128x128))
  Prog.lift (.store arg13 (Rect.unit (s := S128x1024) ![0, 896] S128x128.size inb_S128x1024_S128x128_0_896) (k0_pay2 v1009 v1089 v1090) Finset.univ (View.stores_vmem h_S128x128 (harg13.storeExact_slice rfl _ packedfp8e4m3_S128x1024_S128x128_0_896) (fun _ => rfl)) (.inl rfl))
  let v1111 : Vec F S128x8 .f32 ← Prog.lift (.load arg14 (Rect.unit (s := S128x8) ![0, 0] S128x8.size inb_S128x8_S128x8_0_0).toLoadRect (View.loadsAt_vmem h_S128x8))
  Prog.lift (.store arg14 (Rect.unit (s := S128x8) ![0, 0] S128x8.size inb_S128x8_S128x8_0_0) (k0_pay3 v391 v492 v593 v694 v795 v896 v997 v1089 v1090) Finset.univ (View.stores_vmem_bits_univ h_S128x8 rfl) (.inl rfl))
  k ⟨⟩

theorem tileThen_eq {α : Type} (v16 v30 : BitVec 32) (k : PUnit.{1} → Prog (TpuEff nD τ sig (Elt F) Λ₀ .tc) α) : tileThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v30 k = tileProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v30 >>= k := by
  unfold tileThen tileProg
  simp only [bind_assoc, pure_bind]

/-- The last grid step: the maximum, the means and their quantisation. -/
def lastProg : Prog (TpuEff nD τ sig (Elt F) Λ₀ .tc) PUnit := do
  let v82 : FVec F S6x1 .f32 ← k0_part94 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let v83 : Vec F S6x1024 .f32 ← Prog.lift (.load arg18 (Rect.unit (s := S8x1024) ![0, 0] S6x1024.size inb_S8x1024_S6x1024_0_0).toLoadRect (View.loadsAt_vmem h_S6x1024))
  let v86 : Vec F S6x1024 .f32 ← Prog.lift (.load arg11 (Rect.unit (s := S6x1024) ![0, 0] S6x1024.size inb_S6x1024_S6x1024_0_0).toLoadRect (View.loadsAt_vmem h_S6x1024))
  Prog.lift (.store arg11 (Rect.unit (s := S6x1024) ![0, 0] S6x1024.size inb_S6x1024_S6x1024_0_0) (k0_pay4 v82 v83) Finset.univ (View.stores_vmem_bits_univ h_S6x1024 rfl) (.inl rfl))
  let v104 : Vec F S6x1 .f32 ← Prog.lift (.load arg16 (Rect.unit (s := S6x1) ![0, 0] S6x1.size inb_S6x1_S6x1_0_0).toLoadRect (View.loadsAt_vmem h_S6x1))
  Prog.lift (.store arg16 (Rect.unit (s := S6x1) ![0, 0] S6x1.size inb_S6x1_S6x1_0_0) (k0_pay6 v82 v83) Finset.univ (View.stores_vmem_bits_univ h_S6x1 rfl) (.inl rfl))
  let v113 : Vec F S6x1024 .i8 ← Prog.lift (.load arg15 (Rect.unit (s := S6x1024) ![0, 0] S6x1024.size inb_S6x1024_S6x1024_0_0).toLoadRect (View.loadsAt_vmem h_S6x1024))
  Prog.lift (.store arg15 (Rect.unit (s := S6x1024) ![0, 0] S6x1024.size inb_S6x1024_S6x1024_0_0) (k0_pay7 v82 v83) Finset.univ (View.stores_vmem h_S6x1024 (harg15.storeExact_slice rfl _ packedi8_S6x1024_S6x1024_0_0) (fun _ => rfl)) (.inl rfl))
  pure ⟨⟩

/-- The same with what comes after it. -/
def lastThen{α : Type} (k : PUnit.{1} → Prog (TpuEff nD τ sig (Elt F) Λ₀ .tc) α) : Prog (TpuEff nD τ sig (Elt F) Λ₀ .tc) α := do
  let v82 : FVec F S6x1 .f32 ← k0_part94 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let v83 : Vec F S6x1024 .f32 ← Prog.lift (.load arg18 (Rect.unit (s := S8x1024) ![0, 0] S6x1024.size inb_S8x1024_S6x1024_0_0).toLoadRect (View.loadsAt_vmem h_S6x1024))
  let v86 : Vec F S6x1024 .f32 ← Prog.lift (.load arg11 (Rect.unit (s := S6x1024) ![0, 0] S6x1024.size inb_S6x1024_S6x1024_0_0).toLoadRect (View.loadsAt_vmem h_S6x1024))
  Prog.lift (.store arg11 (Rect.unit (s := S6x1024) ![0, 0] S6x1024.size inb_S6x1024_S6x1024_0_0) (k0_pay4 v82 v83) Finset.univ (View.stores_vmem_bits_univ h_S6x1024 rfl) (.inl rfl))
  let v104 : Vec F S6x1 .f32 ← Prog.lift (.load arg16 (Rect.unit (s := S6x1) ![0, 0] S6x1.size inb_S6x1_S6x1_0_0).toLoadRect (View.loadsAt_vmem h_S6x1))
  Prog.lift (.store arg16 (Rect.unit (s := S6x1) ![0, 0] S6x1.size inb_S6x1_S6x1_0_0) (k0_pay6 v82 v83) Finset.univ (View.stores_vmem_bits_univ h_S6x1 rfl) (.inl rfl))
  let v113 : Vec F S6x1024 .i8 ← Prog.lift (.load arg15 (Rect.unit (s := S6x1024) ![0, 0] S6x1024.size inb_S6x1024_S6x1024_0_0).toLoadRect (View.loadsAt_vmem h_S6x1024))
  Prog.lift (.store arg15 (Rect.unit (s := S6x1024) ![0, 0] S6x1024.size inb_S6x1024_S6x1024_0_0) (k0_pay7 v82 v83) Finset.univ (View.stores_vmem h_S6x1024 (harg15.storeExact_slice rfl _ packedi8_S6x1024_S6x1024_0_0) (fun _ => rfl)) (.inl rfl))
  k ⟨⟩

theorem lastThen_eq {α : Type} (k : PUnit.{1} → Prog (TpuEff nD τ sig (Elt F) Λ₀ .tc) α) : lastThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k = lastProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= k := by
  unfold lastThen lastProg
  simp only [bind_assoc, pure_bind]

/-- Whether this is the first grid step, as the body computes it. -/
def firstCond (i : grid0.Coords) : BitVec 1 :=
  Scalar.cmpi .ne (Scalar.extui (Scalar.cmpi .eq (BitVec.ofNat 32 (i 0).val) 0#32) : BitVec 32) 0#32

/-- The first row of the tile within its sequence, as the body computes it. -/
def rowBase (i : grid0.Coords) : BitVec 32 :=
  let arg0 : BitVec 32 := BitVec.ofNat 32 (i 0).val
  let v0 : BitVec 32 := Scalar.divsi arg0 2#32
  let v1 : BitVec 1 := Scalar.cmpi .sgt arg0 0#32
  let v2 : BitVec 32 := Scalar.extui v1
  let v3 : BitVec 1 := Scalar.cmpi .slt arg0 0#32
  let v4 : BitVec 32 := Scalar.extui v3
  let v5 : BitVec 32 := Scalar.subi v2 v4
  let v6 : BitVec 1 := Scalar.cmpi .sgt 2#32 0#32
  let v7 : BitVec 32 := Scalar.extui v6
  let v8 : BitVec 1 := Scalar.cmpi .slt 2#32 0#32
  let v9 : BitVec 32 := Scalar.extui v8
  let v10 : BitVec 32 := Scalar.subi v7 v9
  let v11 : BitVec 1 := Scalar.cmpi .ne v5 v10
  let v12 : BitVec 32 := Scalar.remsi arg0 2#32
  let v13 : BitVec 1 := Scalar.cmpi .ne v12 0#32
  let v14 : BitVec 1 := Scalar.andi v11 v13
  let v15 : BitVec 32 := Scalar.subi v0 1#32
  let v16 : BitVec 32 := Scalar.select v14 v15 v0
  let v17 : BitVec 1 := Scalar.cmpi .eq 2#32 0#32
  let v18 : BitVec 32 := Scalar.select v17 1#32 2#32
  let v19 : BitVec 32 := Scalar.remsi arg0 v18
  let v20 : BitVec 1 := Scalar.cmpi .ne v19 0#32
  let v21 : BitVec 1 := Scalar.cmpi .slt v19 0#32
  let v22 : BitVec 1 := Scalar.cmpi .slt v18 0#32
  let v23 : BitVec 1 := Scalar.xori v21 v22
  let v24 : BitVec 1 := Scalar.andi v23 v20
  let v25 : BitVec 32 := Scalar.addi v19 v18
  let v26 : BitVec 32 := Scalar.select v24 v25 v19
  let v27 : BitVec 32 := Scalar.muli v26 128#32
  v27

/-- The sequence the tile belongs to, as the body computes it. -/
def seqIdx (i : grid0.Coords) : BitVec 32 :=
  let arg0 : BitVec 32 := BitVec.ofNat 32 (i 0).val
  let v0 : BitVec 32 := Scalar.divsi arg0 2#32
  let v1 : BitVec 1 := Scalar.cmpi .sgt arg0 0#32
  let v2 : BitVec 32 := Scalar.extui v1
  let v3 : BitVec 1 := Scalar.cmpi .slt arg0 0#32
  let v4 : BitVec 32 := Scalar.extui v3
  let v5 : BitVec 32 := Scalar.subi v2 v4
  let v6 : BitVec 1 := Scalar.cmpi .sgt 2#32 0#32
  let v7 : BitVec 32 := Scalar.extui v6
  let v8 : BitVec 1 := Scalar.cmpi .slt 2#32 0#32
  let v9 : BitVec 32 := Scalar.extui v8
  let v10 : BitVec 32 := Scalar.subi v7 v9
  let v11 : BitVec 1 := Scalar.cmpi .ne v5 v10
  let v12 : BitVec 32 := Scalar.remsi arg0 2#32
  let v13 : BitVec 1 := Scalar.cmpi .ne v12 0#32
  let v14 : BitVec 1 := Scalar.andi v11 v13
  let v15 : BitVec 32 := Scalar.subi v0 1#32
  let v16 : BitVec 32 := Scalar.select v14 v15 v0
  let v17 : BitVec 1 := Scalar.cmpi .eq 2#32 0#32
  let v18 : BitVec 32 := Scalar.select v17 1#32 2#32
  let v19 : BitVec 32 := Scalar.remsi arg0 v18
  let v20 : BitVec 1 := Scalar.cmpi .ne v19 0#32
  let v21 : BitVec 1 := Scalar.cmpi .slt v19 0#32
  let v22 : BitVec 1 := Scalar.cmpi .slt v18 0#32
  let v23 : BitVec 1 := Scalar.xori v21 v22
  let v24 : BitVec 1 := Scalar.andi v23 v20
  let v25 : BitVec 32 := Scalar.addi v19 v18
  let v26 : BitVec 32 := Scalar.select v24 v25 v19
  let v27 : BitVec 32 := Scalar.muli v26 128#32
  v16

set_option maxHeartbeats 400000 in
theorem part95_eq : k0_part95 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = (do
  let v29 : Elt F .i32 ← smemLoad arg1 (Rect.unit (s := S6) (k0_off1 i) S1.size (k0_off1_inb i)) numel1_S1 rfl
  let rest₂ : PUnit.{1} → _ := fun _ => pure ⟨BitVec.ofNat 32 (i 0).val, seqIdx i, v29, Scalar.subi v29 (rowBase i), Scalar.cmpi .sgt (Scalar.subi v29 (rowBase i)) 0#32⟩
  let rest₁ : PUnit.{1} → _ := fun _ => if _h : k0_cond2 i v29 = 1#1 then skipThen arg10 arg13 harg13 arg14 rest₂ else rest₂ ⟨⟩
  if _h : firstCond i = 1#1 then initThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 rest₁ else rest₁ ⟨⟩) := rfl

set_option maxHeartbeats 400000 in
theorem body_eq : cc0_down_ln_pool (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = (do
  let ⟨arg0, v16, v29, v30, v37⟩ : Σ' (arg0 : BitVec 32) (v16 : BitVec 32) (v29 : Elt F .i32) (v30 : BitVec 32), BitVec 1 ← k0_part95 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let rest : PUnit.{1} → _ := fun _ => if _h : k0_cond4 i = 1#1 then lastThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 pure else pure ⟨⟩
  if _h : k0_cond3 i v29 = 1#1 then tileThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v30 rest else rest ⟨⟩) := rfl

end Cert.KernelIdeal.Hand

end
-- ==== Proof.KTile.lean ====
/-
  The tile region run once.
-/
module

public import proofs.«01_k».proof.Proof.KRegions
public import Idealize.ShloMosaic.Lib.Pipeline.FrameBody
public import Idealize.ShloMosaic.Lib.Pipeline.Frame
public import Idealize.ShloMosaic.Lib.Tactic
public import Idealize.ShloMosaic.Lib.WordCmp

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (i : grid0.Coords) (arg1 : Memref sig .tc .smem S6 .i32) (harg1 : arg1.IsWhole) (arg2 : Memref sig .tc .vmem S128x1024 .bf16) (harg2 : arg2.IsWhole) (arg3 : Memref sig .tc .vmem S128x4096 .fp8e4m3) (harg3 : arg3.IsWhole) (arg4 : Memref sig .tc .vmem S128x32 .f32) (harg4 : arg4.IsWhole) (arg5 : Memref sig .tc .vmem S4096x1024 .fp8e4m3) (harg5 : arg5.IsWhole) (arg6 : Memref sig .tc .smem S32x8 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S6x1024 .f32) (harg11 : arg11.IsWhole) (arg12 : Memref sig .tc .vmem S1x1024 .f32) (harg12 : arg12.IsWhole) (arg13 : Memref sig .tc .vmem S128x1024 .fp8e4m3) (harg13 : arg13.IsWhole) (arg14 : Memref sig .tc .vmem S128x8 .f32) (harg14 : arg14.IsWhole) (arg15 : Memref sig .tc .vmem S6x1024 .i8) (harg15 : arg15.IsWhole) (arg16 : Memref sig .tc .vmem S6x1 .f32) (harg16 : arg16.IsWhole) (arg17 : Memref sig .tc .vmem S4096x1024 .bf16) (harg17 : arg17.IsWhole) (arg18 : Memref sig .tc .vmem S8x1024 .f32) (harg18 : arg18.IsWhole) (arg19 : Memref sig .tc .vmem S1x1024 .f32) (harg19 : arg19.IsWhole)

/-- A tile with valid rows, run once: the lists of stores it makes. -/
def tileRun (c : Dev nD) (v16 v30 : BitVec 32)
    (f2 : Buf (Elt F) (arg2.view.loc (c : Thread nD τ)))
    (f3 : Buf (Elt F) (arg3.view.loc (c : Thread nD τ)))
    (f4 : Buf (Elt F) (arg4.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (f17 : Buf (Elt F) (arg17.view.loc (c : Thread nD τ)))
    (f10 : Buf (Elt F) (arg10.view.loc (c : Thread nD τ)))
    (f13 : Buf (Elt F) (arg13.view.loc (c : Thread nD τ)))
    (f14 : Buf (Elt F) (arg14.view.loc (c : Thread nD τ)))
    (f18 : Buf (Elt F) (arg18.view.loc (c : Thread nD τ)))
    (f19 : Buf (Elt F) (arg19.view.loc (c : Thread nD τ))) :
    { L : List (View.Piece (Elt F) S128x1024 .f32) × List (View.Piece (Elt F) S128x1024 .fp8e4m3) × List (View.Piece (Elt F) S128x8 .f32) × List (View.Piece (Elt F) S8x1024 .f32) × List (View.Piece (Elt F) S1x1024 .f32) //
      ∀ K : PUnit → sProp 𝕄,
        iprop(at_ c arg2 f2 ∗ at_ c arg3 f3 ∗ at_ c arg4 f4 ∗ at_ c arg7 f7 ∗ at_ c arg8 f8 ∗ at_ c arg9 f9 ∗ at_ c arg17 f17 ∗ at_ c arg10 f10 ∗ at_ c arg13 f13 ∗ at_ c arg14 f14 ∗ at_ c arg18 f18 ∗ at_ c arg19 f19
          ∗ (iprop(at_ c arg2 f2 ∗ at_ c arg3 f3 ∗ at_ c arg4 f4 ∗ at_ c arg7 f7 ∗ at_ c arg8 f8 ∗ at_ c arg9 f9 ∗ at_ c arg17 f17 ∗ at_ c arg10 (arg10.view.writes (Elt F) f10 (L.1)) ∗ at_ c arg13 (arg13.view.writes (Elt F) f13 (L.2.1)) ∗ at_ c arg14 (arg14.view.writes (Elt F) f14 (L.2.2.1)) ∗ at_ c arg18 (arg18.view.writes (Elt F) f18 (L.2.2.2.1)) ∗ at_ c arg19 (arg19.view.writes (Elt F) f19 (L.2.2.2.2))) -∗ K ⟨⟩))
          ⊢ wp frame (wpE (defs₀ (F := F)) Variants.none c none) Set.univ (tileProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v30) K } := by
  refine ⟨⟨?_, ?_, ?_, ?_, ?_⟩, fun K => ?run⟩
  case run =>
    unfold tileProg
    iintro ⟨H2, H3, H4, H7, H8, H9, H17, H10, H13, H14, H18, H19, Hk⟩
    sl_exec_parts
    sl_step
    iapply Hk
    isplitl [H2]; · iexact H2
    isplitl [H3]; · iexact H3
    isplitl [H4]; · iexact H4
    isplitl [H7]; · iexact H7
    isplitl [H8]; · iexact H8
    isplitl [H9]; · iexact H9
    isplitl [H17]; · iexact H17
    isplitl [H10]; · iexact H10
    isplitl [H13]; · iexact H13
    isplitl [H14]; · iexact H14
    isplitl [H18]; · iexact H18
    iexact H19

end Cert.KernelIdeal.Hand

end
-- ==== Proof.KLast.lean ====
/-
  The other regions run once.
-/
module

public import proofs.«01_k».proof.Proof.KRegions
public import Idealize.ShloMosaic.Lib.Pipeline.FrameBody
public import Idealize.ShloMosaic.Lib.Pipeline.Frame
public import Idealize.ShloMosaic.Lib.Tactic
public import Idealize.ShloMosaic.Lib.WordCmp

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (i : grid0.Coords) (arg1 : Memref sig .tc .smem S6 .i32) (harg1 : arg1.IsWhole) (arg2 : Memref sig .tc .vmem S128x1024 .bf16) (harg2 : arg2.IsWhole) (arg3 : Memref sig .tc .vmem S128x4096 .fp8e4m3) (harg3 : arg3.IsWhole) (arg4 : Memref sig .tc .vmem S128x32 .f32) (harg4 : arg4.IsWhole) (arg5 : Memref sig .tc .vmem S4096x1024 .fp8e4m3) (harg5 : arg5.IsWhole) (arg6 : Memref sig .tc .smem S32x8 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S6x1024 .f32) (harg11 : arg11.IsWhole) (arg12 : Memref sig .tc .vmem S1x1024 .f32) (harg12 : arg12.IsWhole) (arg13 : Memref sig .tc .vmem S128x1024 .fp8e4m3) (harg13 : arg13.IsWhole) (arg14 : Memref sig .tc .vmem S128x8 .f32) (harg14 : arg14.IsWhole) (arg15 : Memref sig .tc .vmem S6x1024 .i8) (harg15 : arg15.IsWhole) (arg16 : Memref sig .tc .vmem S6x1 .f32) (harg16 : arg16.IsWhole) (arg17 : Memref sig .tc .vmem S4096x1024 .bf16) (harg17 : arg17.IsWhole) (arg18 : Memref sig .tc .vmem S8x1024 .f32) (harg18 : arg18.IsWhole) (arg19 : Memref sig .tc .vmem S1x1024 .f32) (harg19 : arg19.IsWhole)

/-- The last grid step, run once. -/
def lastRun (c : Dev nD) (q : PosShare TreeShare)
    (f1 : Buf (Elt F) (arg1.view.loc (c : Thread nD τ)))
    (f18 : Buf (Elt F) (arg18.view.loc (c : Thread nD τ)))
    (f19 : Buf (Elt F) (arg19.view.loc (c : Thread nD τ)))
    (f11 : Buf (Elt F) (arg11.view.loc (c : Thread nD τ)))
    (f12 : Buf (Elt F) (arg12.view.loc (c : Thread nD τ)))
    (f15 : Buf (Elt F) (arg15.view.loc (c : Thread nD τ)))
    (f16 : Buf (Elt F) (arg16.view.loc (c : Thread nD τ))) :
    { L : List (View.Piece (Elt F) S6x1024 .f32) × List (View.Piece (Elt F) S1x1024 .f32) × List (View.Piece (Elt F) S6x1024 .i8) × List (View.Piece (Elt F) S6x1 .f32) //
      ∀ K : PUnit → sProp 𝕄,
        iprop(atq c q arg1 f1 ∗ at_ c arg18 f18 ∗ at_ c arg19 f19 ∗ at_ c arg11 f11 ∗ at_ c arg12 f12 ∗ at_ c arg15 f15 ∗ at_ c arg16 f16
          ∗ (iprop(atq c q arg1 f1 ∗ at_ c arg18 f18 ∗ at_ c arg19 f19 ∗ at_ c arg11 (arg11.view.writes (Elt F) f11 (L.1)) ∗ at_ c arg12 (arg12.view.writes (Elt F) f12 (L.2.1)) ∗ at_ c arg15 (arg15.view.writes (Elt F) f15 (L.2.2.1)) ∗ at_ c arg16 (arg16.view.writes (Elt F) f16 (L.2.2.2))) -∗ K ⟨⟩))
          ⊢ wp frame (wpE (defs₀ (F := F)) Variants.none c none) Set.univ (lastProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨⟨?_, ?_, ?_, ?_⟩, fun K => ?run⟩
  case run =>
    unfold lastProg
    iintro ⟨H1, H18, H19, H11, H12, H15, H16, Hk⟩
    sl_exec_parts
    sl_step
    iapply Hk
    isplitl [H1]; · iexact H1
    isplitl [H18]; · iexact H18
    isplitl [H19]; · iexact H19
    isplitl [H11]; · iexact H11
    isplitl [H12]; · iexact H12
    isplitl [H15]; · iexact H15
    iexact H16

/-- A tile with no valid row, run once. -/
def skipRun (c : Dev nD)
    (f10 : Buf (Elt F) (arg10.view.loc (c : Thread nD τ)))
    (f13 : Buf (Elt F) (arg13.view.loc (c : Thread nD τ)))
    (f14 : Buf (Elt F) (arg14.view.loc (c : Thread nD τ))) :
    { L : List (View.Piece (Elt F) S128x1024 .f32) × List (View.Piece (Elt F) S128x1024 .fp8e4m3) × List (View.Piece (Elt F) S128x8 .f32) //
      ∀ K : PUnit → sProp 𝕄,
        iprop(at_ c arg10 f10 ∗ at_ c arg13 f13 ∗ at_ c arg14 f14
          ∗ (iprop(at_ c arg10 (arg10.view.writes (Elt F) f10 (L.1)) ∗ at_ c arg13 (arg13.view.writes (Elt F) f13 (L.2.1)) ∗ at_ c arg14 (arg14.view.writes (Elt F) f14 (L.2.2))) -∗ K ⟨⟩))
          ⊢ wp frame (wpE (defs₀ (F := F)) Variants.none c none) Set.univ (skipProg arg10 arg13 harg13 arg14) K } := by
  refine ⟨⟨?_, ?_, ?_⟩, fun K => ?run⟩
  case run =>
    unfold skipProg
    iintro ⟨H10, H13, H14, Hk⟩
    sl_exec_parts
    sl_step
    iapply Hk
    isplitl [H10]; · iexact H10
    isplitl [H13]; · iexact H13
    iexact H14

end Cert.KernelIdeal.Hand

end
-- ==== Proof.KInit.lean ====
/-
  The first grid step run once.
-/
module

public import proofs.«01_k».proof.Proof.KRegions
public import Idealize.ShloMosaic.Lib.Pipeline.FrameBody
public import Idealize.ShloMosaic.Lib.Pipeline.Frame
public import Idealize.ShloMosaic.Lib.Tactic
public import Idealize.ShloMosaic.Lib.WordCmp

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (i : grid0.Coords) (arg1 : Memref sig .tc .smem S6 .i32) (harg1 : arg1.IsWhole) (arg2 : Memref sig .tc .vmem S128x1024 .bf16) (harg2 : arg2.IsWhole) (arg3 : Memref sig .tc .vmem S128x4096 .fp8e4m3) (harg3 : arg3.IsWhole) (arg4 : Memref sig .tc .vmem S128x32 .f32) (harg4 : arg4.IsWhole) (arg5 : Memref sig .tc .vmem S4096x1024 .fp8e4m3) (harg5 : arg5.IsWhole) (arg6 : Memref sig .tc .smem S32x8 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S6x1024 .f32) (harg11 : arg11.IsWhole) (arg12 : Memref sig .tc .vmem S1x1024 .f32) (harg12 : arg12.IsWhole) (arg13 : Memref sig .tc .vmem S128x1024 .fp8e4m3) (harg13 : arg13.IsWhole) (arg14 : Memref sig .tc .vmem S128x8 .f32) (harg14 : arg14.IsWhole) (arg15 : Memref sig .tc .vmem S6x1024 .i8) (harg15 : arg15.IsWhole) (arg16 : Memref sig .tc .vmem S6x1 .f32) (harg16 : arg16.IsWhole) (arg17 : Memref sig .tc .vmem S4096x1024 .bf16) (harg17 : arg17.IsWhole) (arg18 : Memref sig .tc .vmem S8x1024 .f32) (harg18 : arg18.IsWhole) (arg19 : Memref sig .tc .vmem S1x1024 .f32) (harg19 : arg19.IsWhole)

/-- The first grid step, run once: the weight dequantised block by block. -/
def initRun (c : Dev nD)
    (f5 : Buf (Elt F) (arg5.view.loc (c : Thread nD τ)))
    (f6 : Buf (Elt F) (arg6.view.loc (c : Thread nD τ)))
    (f17 : Buf (Elt F) (arg17.view.loc (c : Thread nD τ)))
    (f18 : Buf (Elt F) (arg18.view.loc (c : Thread nD τ)))
    (f19 : Buf (Elt F) (arg19.view.loc (c : Thread nD τ))) :
    { L : List (View.Piece (Elt F) S4096x1024 .bf16) × List (View.Piece (Elt F) S8x1024 .f32) × List (View.Piece (Elt F) S1x1024 .f32) //
      ∀ K : PUnit → sProp 𝕄,
        iprop(at_ c arg5 f5 ∗ at_ c arg6 f6 ∗ at_ c arg17 f17 ∗ at_ c arg18 f18 ∗ at_ c arg19 f19
          ∗ (iprop(at_ c arg5 f5 ∗ at_ c arg6 f6 ∗ at_ c arg17 (arg17.view.writes (Elt F) f17 (L.1)) ∗ at_ c arg18 (arg18.view.writes (Elt F) f18 (L.2.1)) ∗ at_ c arg19 (arg19.view.writes (Elt F) f19 (L.2.2))) -∗ K ⟨⟩))
          ⊢ wp frame (wpE (defs₀ (F := F)) Variants.none c none) Set.univ (initProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨⟨?_, ?_, ?_⟩, fun K => ?run⟩
  case run =>
    unfold initProg
    iintro ⟨H5, H6, H17, H18, H19, Hk⟩
    sl_exec_parts
    sl_step
    iapply Hk
    isplitl [H5]; · iexact H5
    isplitl [H6]; · iexact H6
    isplitl [H17]; · iexact H17
    isplitl [H18]; · iexact H18
    iexact H19

end Cert.KernelIdeal.Hand

end
-- ==== Proof.KBody.lean ====
/-
  The body run once: the four regions under their conditions, each written buffer at its contents after them.
-/
module

public import proofs.«01_k».proof.Proof.KTile
public import proofs.«01_k».proof.Proof.KLast
public import proofs.«01_k».proof.Proof.KInit
public import Idealize.ShloMosaic.Lib.Pipeline.FrameBody
public import Idealize.ShloMosaic.Lib.Pipeline.Frame
public import Idealize.ShloMosaic.Lib.Tactic
public import Idealize.ShloMosaic.Lib.WordCmp

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (i : grid0.Coords) (arg1 : Memref sig .tc .smem S6 .i32) (harg1 : arg1.IsWhole) (arg2 : Memref sig .tc .vmem S128x1024 .bf16) (harg2 : arg2.IsWhole) (arg3 : Memref sig .tc .vmem S128x4096 .fp8e4m3) (harg3 : arg3.IsWhole) (arg4 : Memref sig .tc .vmem S128x32 .f32) (harg4 : arg4.IsWhole) (arg5 : Memref sig .tc .vmem S4096x1024 .fp8e4m3) (harg5 : arg5.IsWhole) (arg6 : Memref sig .tc .smem S32x8 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S6x1024 .f32) (harg11 : arg11.IsWhole) (arg12 : Memref sig .tc .vmem S1x1024 .f32) (harg12 : arg12.IsWhole) (arg13 : Memref sig .tc .vmem S128x1024 .fp8e4m3) (harg13 : arg13.IsWhole) (arg14 : Memref sig .tc .vmem S128x8 .f32) (harg14 : arg14.IsWhole) (arg15 : Memref sig .tc .vmem S6x1024 .i8) (harg15 : arg15.IsWhole) (arg16 : Memref sig .tc .vmem S6x1 .f32) (harg16 : arg16.IsWhole) (arg17 : Memref sig .tc .vmem S4096x1024 .bf16) (harg17 : arg17.IsWhole) (arg18 : Memref sig .tc .vmem S8x1024 .f32) (harg18 : arg18.IsWhole) (arg19 : Memref sig .tc .vmem S1x1024 .f32) (harg19 : arg19.IsWhole)

/-- The length of the sequence the point's tile belongs to, as the body loads it from the table. -/
def lenAt (c : Dev nD) (f1 : Buf (Elt F) (arg1.view.loc (c : Thread nD τ))) : BitVec 32 :=
  arg1.view.readAt (Elt F) (Rect.unit (s := S6) (k0_off1 i) S1.size (k0_off1_inb i)).toLoadRect f1 (Shape.Idx.first (numel1_S1.symm ▸ Nat.one_pos : 0 < S1.numel))

/-- After the first step's region: the contents of `arg17`. -/
def i17 (c : Dev nD) (f5 : Buf (Elt F) (arg5.view.loc (c : Thread nD τ))) (f6 : Buf (Elt F) (arg6.view.loc (c : Thread nD τ))) (f17 : Buf (Elt F) (arg17.view.loc (c : Thread nD τ))) (f18 : Buf (Elt F) (arg18.view.loc (c : Thread nD τ))) (f19 : Buf (Elt F) (arg19.view.loc (c : Thread nD τ))) : Buf (Elt F) (arg17.view.loc (c : Thread nD τ)) :=
  if firstCond i = 1#1 then arg17.view.writes (Elt F) f17 (initRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19).1.1 else f17

/-- After the first step's region: the contents of `arg18`. -/
def i18 (c : Dev nD) (f5 : Buf (Elt F) (arg5.view.loc (c : Thread nD τ))) (f6 : Buf (Elt F) (arg6.view.loc (c : Thread nD τ))) (f17 : Buf (Elt F) (arg17.view.loc (c : Thread nD τ))) (f18 : Buf (Elt F) (arg18.view.loc (c : Thread nD τ))) (f19 : Buf (Elt F) (arg19.view.loc (c : Thread nD τ))) : Buf (Elt F) (arg18.view.loc (c : Thread nD τ)) :=
  if firstCond i = 1#1 then arg18.view.writes (Elt F) f18 (initRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19).1.2.1 else f18

/-- After the first step's region: the contents of `arg19`. -/
def i19 (c : Dev nD) (f5 : Buf (Elt F) (arg5.view.loc (c : Thread nD τ))) (f6 : Buf (Elt F) (arg6.view.loc (c : Thread nD τ))) (f17 : Buf (Elt F) (arg17.view.loc (c : Thread nD τ))) (f18 : Buf (Elt F) (arg18.view.loc (c : Thread nD τ))) (f19 : Buf (Elt F) (arg19.view.loc (c : Thread nD τ))) : Buf (Elt F) (arg19.view.loc (c : Thread nD τ)) :=
  if firstCond i = 1#1 then arg19.view.writes (Elt F) f19 (initRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19).1.2.2 else f19

/-- After the region of a tile with no valid row: the contents of `arg10`. -/
def s10 (c : Dev nD) (v29 : BitVec 32) (f10 : Buf (Elt F) (arg10.view.loc (c : Thread nD τ))) (f13 : Buf (Elt F) (arg13.view.loc (c : Thread nD τ))) (f14 : Buf (Elt F) (arg14.view.loc (c : Thread nD τ))) : Buf (Elt F) (arg10.view.loc (c : Thread nD τ)) :=
  if k0_cond2 i v29 = 1#1 then arg10.view.writes (Elt F) f10 (skipRun arg10 arg13 harg13 arg14 c f10 f13 f14).1.1 else f10

/-- After the region of a tile with no valid row: the contents of `arg13`. -/
def s13 (c : Dev nD) (v29 : BitVec 32) (f10 : Buf (Elt F) (arg10.view.loc (c : Thread nD τ))) (f13 : Buf (Elt F) (arg13.view.loc (c : Thread nD τ))) (f14 : Buf (Elt F) (arg14.view.loc (c : Thread nD τ))) : Buf (Elt F) (arg13.view.loc (c : Thread nD τ)) :=
  if k0_cond2 i v29 = 1#1 then arg13.view.writes (Elt F) f13 (skipRun arg10 arg13 harg13 arg14 c f10 f13 f14).1.2.1 else f13

/-- After the region of a tile with no valid row: the contents of `arg14`. -/
def s14 (c : Dev nD) (v29 : BitVec 32) (f10 : Buf (Elt F) (arg10.view.loc (c : Thread nD τ))) (f13 : Buf (Elt F) (arg13.view.loc (c : Thread nD τ))) (f14 : Buf (Elt F) (arg14.view.loc (c : Thread nD τ))) : Buf (Elt F) (arg14.view.loc (c : Thread nD τ)) :=
  if k0_cond2 i v29 = 1#1 then arg14.view.writes (Elt F) f14 (skipRun arg10 arg13 harg13 arg14 c f10 f13 f14).1.2.2 else f14

/-- After the region of a tile with valid rows: the contents of `arg10`. -/
def t10 (c : Dev nD) (v29 v16 v30 : BitVec 32) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ))) (f8 : Buf (Elt F) (arg8.view.loc (c : Thread nD τ))) (f9 : Buf (Elt F) (arg9.view.loc (c : Thread nD τ))) (f17 : Buf (Elt F) (arg17.view.loc (c : Thread nD τ))) (f10 : Buf (Elt F) (arg10.view.loc (c : Thread nD τ))) (f13 : Buf (Elt F) (arg13.view.loc (c : Thread nD τ))) (f14 : Buf (Elt F) (arg14.view.loc (c : Thread nD τ))) (f18 : Buf (Elt F) (arg18.view.loc (c : Thread nD τ))) (f19 : Buf (Elt F) (arg19.view.loc (c : Thread nD τ))) : Buf (Elt F) (arg10.view.loc (c : Thread nD τ)) :=
  if k0_cond3 i v29 = 1#1 then arg10.view.writes (Elt F) f10 (tileRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v16 v30 f2 f3 f4 f7 f8 f9 f17 f10 f13 f14 f18 f19).1.1 else f10

/-- After the region of a tile with valid rows: the contents of `arg13`. -/
def t13 (c : Dev nD) (v29 v16 v30 : BitVec 32) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ))) (f8 : Buf (Elt F) (arg8.view.loc (c : Thread nD τ))) (f9 : Buf (Elt F) (arg9.view.loc (c : Thread nD τ))) (f17 : Buf (Elt F) (arg17.view.loc (c : Thread nD τ))) (f10 : Buf (Elt F) (arg10.view.loc (c : Thread nD τ))) (f13 : Buf (Elt F) (arg13.view.loc (c : Thread nD τ))) (f14 : Buf (Elt F) (arg14.view.loc (c : Thread nD τ))) (f18 : Buf (Elt F) (arg18.view.loc (c : Thread nD τ))) (f19 : Buf (Elt F) (arg19.view.loc (c : Thread nD τ))) : Buf (Elt F) (arg13.view.loc (c : Thread nD τ)) :=
  if k0_cond3 i v29 = 1#1 then arg13.view.writes (Elt F) f13 (tileRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v16 v30 f2 f3 f4 f7 f8 f9 f17 f10 f13 f14 f18 f19).1.2.1 else f13

/-- After the region of a tile with valid rows: the contents of `arg14`. -/
def t14 (c : Dev nD) (v29 v16 v30 : BitVec 32) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ))) (f8 : Buf (Elt F) (arg8.view.loc (c : Thread nD τ))) (f9 : Buf (Elt F) (arg9.view.loc (c : Thread nD τ))) (f17 : Buf (Elt F) (arg17.view.loc (c : Thread nD τ))) (f10 : Buf (Elt F) (arg10.view.loc (c : Thread nD τ))) (f13 : Buf (Elt F) (arg13.view.loc (c : Thread nD τ))) (f14 : Buf (Elt F) (arg14.view.loc (c : Thread nD τ))) (f18 : Buf (Elt F) (arg18.view.loc (c : Thread nD τ))) (f19 : Buf (Elt F) (arg19.view.loc (c : Thread nD τ))) : Buf (Elt F) (arg14.view.loc (c : Thread nD τ)) :=
  if k0_cond3 i v29 = 1#1 then arg14.view.writes (Elt F) f14 (tileRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v16 v30 f2 f3 f4 f7 f8 f9 f17 f10 f13 f14 f18 f19).1.2.2.1 else f14

/-- After the region of a tile with valid rows: the contents of `arg18`. -/
def t18 (c : Dev nD) (v29 v16 v30 : BitVec 32) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ))) (f8 : Buf (Elt F) (arg8.view.loc (c : Thread nD τ))) (f9 : Buf (Elt F) (arg9.view.loc (c : Thread nD τ))) (f17 : Buf (Elt F) (arg17.view.loc (c : Thread nD τ))) (f10 : Buf (Elt F) (arg10.view.loc (c : Thread nD τ))) (f13 : Buf (Elt F) (arg13.view.loc (c : Thread nD τ))) (f14 : Buf (Elt F) (arg14.view.loc (c : Thread nD τ))) (f18 : Buf (Elt F) (arg18.view.loc (c : Thread nD τ))) (f19 : Buf (Elt F) (arg19.view.loc (c : Thread nD τ))) : Buf (Elt F) (arg18.view.loc (c : Thread nD τ)) :=
  if k0_cond3 i v29 = 1#1 then arg18.view.writes (Elt F) f18 (tileRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v16 v30 f2 f3 f4 f7 f8 f9 f17 f10 f13 f14 f18 f19).1.2.2.2.1 else f18

/-- After the region of a tile with valid rows: the contents of `arg19`. -/
def t19 (c : Dev nD) (v29 v16 v30 : BitVec 32) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ))) (f8 : Buf (Elt F) (arg8.view.loc (c : Thread nD τ))) (f9 : Buf (Elt F) (arg9.view.loc (c : Thread nD τ))) (f17 : Buf (Elt F) (arg17.view.loc (c : Thread nD τ))) (f10 : Buf (Elt F) (arg10.view.loc (c : Thread nD τ))) (f13 : Buf (Elt F) (arg13.view.loc (c : Thread nD τ))) (f14 : Buf (Elt F) (arg14.view.loc (c : Thread nD τ))) (f18 : Buf (Elt F) (arg18.view.loc (c : Thread nD τ))) (f19 : Buf (Elt F) (arg19.view.loc (c : Thread nD τ))) : Buf (Elt F) (arg19.view.loc (c : Thread nD τ)) :=
  if k0_cond3 i v29 = 1#1 then arg19.view.writes (Elt F) f19 (tileRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v16 v30 f2 f3 f4 f7 f8 f9 f17 f10 f13 f14 f18 f19).1.2.2.2.2 else f19

/-- After the last step's region: the contents of `arg11`. -/
def l11 (c : Dev nD) (q : PosShare TreeShare) (f1 : Buf (Elt F) (arg1.view.loc (c : Thread nD τ))) (f18 : Buf (Elt F) (arg18.view.loc (c : Thread nD τ))) (f19 : Buf (Elt F) (arg19.view.loc (c : Thread nD τ))) (f11 : Buf (Elt F) (arg11.view.loc (c : Thread nD τ))) (f12 : Buf (Elt F) (arg12.view.loc (c : Thread nD τ))) (f15 : Buf (Elt F) (arg15.view.loc (c : Thread nD τ))) (f16 : Buf (Elt F) (arg16.view.loc (c : Thread nD τ))) : Buf (Elt F) (arg11.view.loc (c : Thread nD τ)) :=
  if k0_cond4 i = 1#1 then arg11.view.writes (Elt F) f11 (lastRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16).1.1 else f11

/-- After the last step's region: the contents of `arg12`. -/
def l12 (c : Dev nD) (q : PosShare TreeShare) (f1 : Buf (Elt F) (arg1.view.loc (c : Thread nD τ))) (f18 : Buf (Elt F) (arg18.view.loc (c : Thread nD τ))) (f19 : Buf (Elt F) (arg19.view.loc (c : Thread nD τ))) (f11 : Buf (Elt F) (arg11.view.loc (c : Thread nD τ))) (f12 : Buf (Elt F) (arg12.view.loc (c : Thread nD τ))) (f15 : Buf (Elt F) (arg15.view.loc (c : Thread nD τ))) (f16 : Buf (Elt F) (arg16.view.loc (c : Thread nD τ))) : Buf (Elt F) (arg12.view.loc (c : Thread nD τ)) :=
  if k0_cond4 i = 1#1 then arg12.view.writes (Elt F) f12 (lastRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16).1.2.1 else f12

/-- After the last step's region: the contents of `arg15`. -/
def l15 (c : Dev nD) (q : PosShare TreeShare) (f1 : Buf (Elt F) (arg1.view.loc (c : Thread nD τ))) (f18 : Buf (Elt F) (arg18.view.loc (c : Thread nD τ))) (f19 : Buf (Elt F) (arg19.view.loc (c : Thread nD τ))) (f11 : Buf (Elt F) (arg11.view.loc (c : Thread nD τ))) (f12 : Buf (Elt F) (arg12.view.loc (c : Thread nD τ))) (f15 : Buf (Elt F) (arg15.view.loc (c : Thread nD τ))) (f16 : Buf (Elt F) (arg16.view.loc (c : Thread nD τ))) : Buf (Elt F) (arg15.view.loc (c : Thread nD τ)) :=
  if k0_cond4 i = 1#1 then arg15.view.writes (Elt F) f15 (lastRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16).1.2.2.1 else f15

/-- After the last step's region: the contents of `arg16`. -/
def l16 (c : Dev nD) (q : PosShare TreeShare) (f1 : Buf (Elt F) (arg1.view.loc (c : Thread nD τ))) (f18 : Buf (Elt F) (arg18.view.loc (c : Thread nD τ))) (f19 : Buf (Elt F) (arg19.view.loc (c : Thread nD τ))) (f11 : Buf (Elt F) (arg11.view.loc (c : Thread nD τ))) (f12 : Buf (Elt F) (arg12.view.loc (c : Thread nD τ))) (f15 : Buf (Elt F) (arg15.view.loc (c : Thread nD τ))) (f16 : Buf (Elt F) (arg16.view.loc (c : Thread nD τ))) : Buf (Elt F) (arg16.view.loc (c : Thread nD τ)) :=
  if k0_cond4 i = 1#1 then arg16.view.writes (Elt F) f16 (lastRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16).1.2.2.2 else f16

theorem init_stage (c : Dev nD) (f5 : Buf (Elt F) (arg5.view.loc (c : Thread nD τ))) (f6 : Buf (Elt F) (arg6.view.loc (c : Thread nD τ))) (f17 : Buf (Elt F) (arg17.view.loc (c : Thread nD τ))) (f18 : Buf (Elt F) (arg18.view.loc (c : Thread nD τ))) (f19 : Buf (Elt F) (arg19.view.loc (c : Thread nD τ))) {α : Type} (rest : PUnit → Prog (TpuEff nD τ sig (Elt F) Λ₀ .tc) α) (K : α → sProp 𝕄) :
    iprop(at_ c arg5 f5 ∗ at_ c arg6 f6 ∗ at_ c arg17 f17 ∗ at_ c arg18 f18 ∗ at_ c arg19 f19
      ∗ (iprop(at_ c arg5 f5 ∗ at_ c arg6 f6 ∗ at_ c arg17 (i17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19) ∗ at_ c arg18 (i18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19) ∗ at_ c arg19 (i19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19)) -∗ wp frame (wpE (defs₀ (F := F)) Variants.none c none) Set.univ (rest ⟨⟩) K))
      ⊢ wp frame (wpE (defs₀ (F := F)) Variants.none c none) Set.univ (if _h : firstCond i = 1#1 then initThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 rest else rest ⟨⟩) K := by
  unfold i17 i18 i19
  by_cases h : firstCond i = 1#1
  · rw [dif_pos h, initThen_eq, wp_bind]; simp only [if_pos h]
    exact (initRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19).2 (fun a => wp frame (wpE (defs₀ (F := F)) Variants.none c none) Set.univ (rest a) K)
  · rw [dif_neg h]; simp only [if_neg h]
    iintro ⟨H5, H6, H17, H18, H19, Hk⟩
    iapply Hk
    isplitl [H5]; · iexact H5
    isplitl [H6]; · iexact H6
    isplitl [H17]; · iexact H17
    isplitl [H18]; · iexact H18
    iexact H19

theorem skip_stage (c : Dev nD) (v29 : BitVec 32) (f10 : Buf (Elt F) (arg10.view.loc (c : Thread nD τ))) (f13 : Buf (Elt F) (arg13.view.loc (c : Thread nD τ))) (f14 : Buf (Elt F) (arg14.view.loc (c : Thread nD τ))) {α : Type} (rest : PUnit → Prog (TpuEff nD τ sig (Elt F) Λ₀ .tc) α) (K : α → sProp 𝕄) :
    iprop(at_ c arg10 f10 ∗ at_ c arg13 f13 ∗ at_ c arg14 f14
      ∗ (iprop(at_ c arg10 (s10 i arg10 arg13 harg13 arg14 c v29 f10 f13 f14) ∗ at_ c arg13 (s13 i arg10 arg13 harg13 arg14 c v29 f10 f13 f14) ∗ at_ c arg14 (s14 i arg10 arg13 harg13 arg14 c v29 f10 f13 f14)) -∗ wp frame (wpE (defs₀ (F := F)) Variants.none c none) Set.univ (rest ⟨⟩) K))
      ⊢ wp frame (wpE (defs₀ (F := F)) Variants.none c none) Set.univ (if _h : k0_cond2 i v29 = 1#1 then skipThen arg10 arg13 harg13 arg14 rest else rest ⟨⟩) K := by
  unfold s10 s13 s14
  by_cases h : k0_cond2 i v29 = 1#1
  · rw [dif_pos h, skipThen_eq, wp_bind]; simp only [if_pos h]
    exact (skipRun arg10 arg13 harg13 arg14 c f10 f13 f14).2 (fun a => wp frame (wpE (defs₀ (F := F)) Variants.none c none) Set.univ (rest a) K)
  · rw [dif_neg h]; simp only [if_neg h]
    iintro ⟨H10, H13, H14, Hk⟩
    iapply Hk
    isplitl [H10]; · iexact H10
    isplitl [H13]; · iexact H13
    iexact H14

theorem tile_stage (c : Dev nD) (v29 v16 v30 : BitVec 32) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ))) (f8 : Buf (Elt F) (arg8.view.loc (c : Thread nD τ))) (f9 : Buf (Elt F) (arg9.view.loc (c : Thread nD τ))) (f17 : Buf (Elt F) (arg17.view.loc (c : Thread nD τ))) (f10 : Buf (Elt F) (arg10.view.loc (c : Thread nD τ))) (f13 : Buf (Elt F) (arg13.view.loc (c : Thread nD τ))) (f14 : Buf (Elt F) (arg14.view.loc (c : Thread nD τ))) (f18 : Buf (Elt F) (arg18.view.loc (c : Thread nD τ))) (f19 : Buf (Elt F) (arg19.view.loc (c : Thread nD τ))) {α : Type} (rest : PUnit → Prog (TpuEff nD τ sig (Elt F) Λ₀ .tc) α) (K : α → sProp 𝕄) :
    iprop(at_ c arg2 f2 ∗ at_ c arg3 f3 ∗ at_ c arg4 f4 ∗ at_ c arg7 f7 ∗ at_ c arg8 f8 ∗ at_ c arg9 f9 ∗ at_ c arg17 f17 ∗ at_ c arg10 f10 ∗ at_ c arg13 f13 ∗ at_ c arg14 f14 ∗ at_ c arg18 f18 ∗ at_ c arg19 f19
      ∗ (iprop(at_ c arg2 f2 ∗ at_ c arg3 f3 ∗ at_ c arg4 f4 ∗ at_ c arg7 f7 ∗ at_ c arg8 f8 ∗ at_ c arg9 f9 ∗ at_ c arg17 f17 ∗ at_ c arg10 (t10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v29 v16 v30 f2 f3 f4 f7 f8 f9 f17 f10 f13 f14 f18 f19) ∗ at_ c arg13 (t13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v29 v16 v30 f2 f3 f4 f7 f8 f9 f17 f10 f13 f14 f18 f19) ∗ at_ c arg14 (t14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v29 v16 v30 f2 f3 f4 f7 f8 f9 f17 f10 f13 f14 f18 f19) ∗ at_ c arg18 (t18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v29 v16 v30 f2 f3 f4 f7 f8 f9 f17 f10 f13 f14 f18 f19) ∗ at_ c arg19 (t19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v29 v16 v30 f2 f3 f4 f7 f8 f9 f17 f10 f13 f14 f18 f19)) -∗ wp frame (wpE (defs₀ (F := F)) Variants.none c none) Set.univ (rest ⟨⟩) K))
      ⊢ wp frame (wpE (defs₀ (F := F)) Variants.none c none) Set.univ (if _h : k0_cond3 i v29 = 1#1 then tileThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v30 rest else rest ⟨⟩) K := by
  unfold t10 t13 t14 t18 t19
  by_cases h : k0_cond3 i v29 = 1#1
  · rw [dif_pos h, tileThen_eq, wp_bind]; simp only [if_pos h]
    exact (tileRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v16 v30 f2 f3 f4 f7 f8 f9 f17 f10 f13 f14 f18 f19).2 (fun a => wp frame (wpE (defs₀ (F := F)) Variants.none c none) Set.univ (rest a) K)
  · rw [dif_neg h]; simp only [if_neg h]
    iintro ⟨H2, H3, H4, H7, H8, H9, H17, H10, H13, H14, H18, H19, Hk⟩
    iapply Hk
    isplitl [H2]; · iexact H2
    isplitl [H3]; · iexact H3
    isplitl [H4]; · iexact H4
    isplitl [H7]; · iexact H7
    isplitl [H8]; · iexact H8
    isplitl [H9]; · iexact H9
    isplitl [H17]; · iexact H17
    isplitl [H10]; · iexact H10
    isplitl [H13]; · iexact H13
    isplitl [H14]; · iexact H14
    isplitl [H18]; · iexact H18
    iexact H19

theorem last_stage (c : Dev nD) (q : PosShare TreeShare) (f1 : Buf (Elt F) (arg1.view.loc (c : Thread nD τ))) (f18 : Buf (Elt F) (arg18.view.loc (c : Thread nD τ))) (f19 : Buf (Elt F) (arg19.view.loc (c : Thread nD τ))) (f11 : Buf (Elt F) (arg11.view.loc (c : Thread nD τ))) (f12 : Buf (Elt F) (arg12.view.loc (c : Thread nD τ))) (f15 : Buf (Elt F) (arg15.view.loc (c : Thread nD τ))) (f16 : Buf (Elt F) (arg16.view.loc (c : Thread nD τ))) {α : Type} (rest : PUnit → Prog (TpuEff nD τ sig (Elt F) Λ₀ .tc) α) (K : α → sProp 𝕄) :
    iprop(atq c q arg1 f1 ∗ at_ c arg18 f18 ∗ at_ c arg19 f19 ∗ at_ c arg11 f11 ∗ at_ c arg12 f12 ∗ at_ c arg15 f15 ∗ at_ c arg16 f16
      ∗ (iprop(atq c q arg1 f1 ∗ at_ c arg18 f18 ∗ at_ c arg19 f19 ∗ at_ c arg11 (l11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16) ∗ at_ c arg12 (l12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16) ∗ at_ c arg15 (l15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16) ∗ at_ c arg16 (l16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16)) -∗ wp frame (wpE (defs₀ (F := F)) Variants.none c none) Set.univ (rest ⟨⟩) K))
      ⊢ wp frame (wpE (defs₀ (F := F)) Variants.none c none) Set.univ (if _h : k0_cond4 i = 1#1 then lastThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 rest else rest ⟨⟩) K := by
  unfold l11 l12 l15 l16
  by_cases h : k0_cond4 i = 1#1
  · rw [dif_pos h, lastThen_eq, wp_bind]; simp only [if_pos h]
    exact (lastRun i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f18 f19 f11 f12 f15 f16).2 (fun a => wp frame (wpE (defs₀ (F := F)) Variants.none c none) Set.univ (rest a) K)
  · rw [dif_neg h]; simp only [if_neg h]
    iintro ⟨H1, H18, H19, H11, H12, H15, H16, Hk⟩
    iapply Hk
    isplitl [H1]; · iexact H1
    isplitl [H18]; · iexact H18
    isplitl [H19]; · iexact H19
    isplitl [H11]; · iexact H11
    isplitl [H12]; · iexact H12
    isplitl [H15]; · iexact H15
    iexact H16

/-- The table's word loaded. -/
theorem len_load (c : Dev nD) (q : PosShare TreeShare) (f1 : Buf (Elt F) (arg1.view.loc (c : Thread nD τ))) (K : BitVec 32 → sProp 𝕄) :
    iprop(atq c q arg1 f1 ∗ (atq c q arg1 f1 -∗ K (lenAt i arg1 c f1)))
      ⊢ wp frame (wpE (defs₀ (F := F)) Variants.none c none) Set.univ
          (smemLoad arg1 (Rect.unit (s := S6) (k0_off1 i) S1.size (k0_off1_inb i)) numel1_S1 rfl) K := by
  unfold smemLoad
  iintro ⟨H1, Hk⟩
  sl_exec
  sl_step
  unfold lenAt
  iapply Hk
  iexact H1

/-- The body's first half: the first step's region, the length loaded, the region of a tile with no valid row. -/
theorem part95_run (c : Dev nD) (q : PosShare TreeShare) (f1 : Buf (Elt F) (arg1.view.loc (c : Thread nD τ))) (f5 : Buf (Elt F) (arg5.view.loc (c : Thread nD τ))) (f6 : Buf (Elt F) (arg6.view.loc (c : Thread nD τ))) (f17 : Buf (Elt F) (arg17.view.loc (c : Thread nD τ))) (f18 : Buf (Elt F) (arg18.view.loc (c : Thread nD τ))) (f19 : Buf (Elt F) (arg19.view.loc (c : Thread nD τ))) (f10 : Buf (Elt F) (arg10.view.loc (c : Thread nD τ))) (f13 : Buf (Elt F) (arg13.view.loc (c : Thread nD τ))) (f14 : Buf (Elt F) (arg14.view.loc (c : Thread nD τ))) (K : (Σ' (arg0 : BitVec 32) (v16 : BitVec 32) (v29 : Elt F .i32) (v30 : BitVec 32), BitVec 1) → sProp 𝕄) :
    iprop(atq c q arg1 f1 ∗ at_ c arg5 f5 ∗ at_ c arg6 f6 ∗ at_ c arg17 f17 ∗ at_ c arg18 f18 ∗ at_ c arg19 f19 ∗ at_ c arg10 f10 ∗ at_ c arg13 f13 ∗ at_ c arg14 f14
      ∗ (iprop(atq c q arg1 f1 ∗ at_ c arg5 f5 ∗ at_ c arg6 f6 ∗ at_ c arg17 (i17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19) ∗ at_ c arg18 (i18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19) ∗ at_ c arg19 (i19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19) ∗ at_ c arg10 (s10 i arg10 arg13 harg13 arg14 c (lenAt i arg1 c f1) f10 f13 f14) ∗ at_ c arg13 (s13 i arg10 arg13 harg13 arg14 c (lenAt i arg1 c f1) f10 f13 f14) ∗ at_ c arg14 (s14 i arg10 arg13 harg13 arg14 c (lenAt i arg1 c f1) f10 f13 f14))
        -∗ K ⟨BitVec.ofNat 32 (i 0).val, seqIdx i, (lenAt i arg1 c f1), Scalar.subi (lenAt i arg1 c f1) (rowBase i), Scalar.cmpi .sgt (Scalar.subi (lenAt i arg1 c f1) (rowBase i)) 0#32⟩))
      ⊢ wp frame (wpE (defs₀ (F := F)) Variants.none c none) Set.univ (k0_part95 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  rw [part95_eq]; dsimp only
  iintro ⟨H1, H5, H6, H17, H18, H19, H10, H13, H14, Hk⟩
  rw [wp_bind]
  iapply (len_load i arg1 c q f1)
  isplitl [H1]; · iexact H1
  iintro H1
  iapply (init_stage i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19)
  isplitl [H5]; · iexact H5
  isplitl [H6]; · iexact H6
  isplitl [H17]; · iexact H17
  isplitl [H18]; · iexact H18
  isplitl [H19]; · iexact H19
  iintro ⟨H5, H6, H17, H18, H19⟩
  iapply (skip_stage i arg10 arg13 harg13 arg14 c (lenAt i arg1 c f1) f10 f13 f14)
  isplitl [H10]; · iexact H10
  isplitl [H13]; · iexact H13
  isplitl [H14]; · iexact H14
  iintro ⟨H10, H13, H14⟩
  rw [wp_pure]; imodintro
  iapply Hk
  isplitl [H1]; · iexact H1
  isplitl [H5]; · iexact H5
  isplitl [H6]; · iexact H6
  isplitl [H17]; · iexact H17
  isplitl [H18]; · iexact H18
  isplitl [H19]; · iexact H19
  isplitl [H10]; · iexact H10
  isplitl [H13]; · iexact H13
  iexact H14

/-- What one run of the body leaves: `a…` after the first step's region and the region of a tile with no valid row, `b…` at the end. -/
def BodyPost (c : Dev nD) (q : PosShare TreeShare) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (a17 : Buf (Elt F) (arg17.view.loc (c : Thread nD τ))) (a18 : Buf (Elt F) (arg18.view.loc (c : Thread nD τ))) (a19 : Buf (Elt F) (arg19.view.loc (c : Thread nD τ))) (a10 : Buf (Elt F) (arg10.view.loc (c : Thread nD τ))) (a13 : Buf (Elt F) (arg13.view.loc (c : Thread nD τ))) (a14 : Buf (Elt F) (arg14.view.loc (c : Thread nD τ))) (b10 : Buf (Elt F) (arg10.view.loc (c : Thread nD τ))) (b13 : Buf (Elt F) (arg13.view.loc (c : Thread nD τ))) (b14 : Buf (Elt F) (arg14.view.loc (c : Thread nD τ))) (b18 : Buf (Elt F) (arg18.view.loc (c : Thread nD τ))) (b19 : Buf (Elt F) (arg19.view.loc (c : Thread nD τ))) (b11 : Buf (Elt F) (arg11.view.loc (c : Thread nD τ))) (b12 : Buf (Elt F) (arg12.view.loc (c : Thread nD τ))) (b15 : Buf (Elt F) (arg15.view.loc (c : Thread nD τ))) (b16 : Buf (Elt F) (arg16.view.loc (c : Thread nD τ))) : Prop :=
  a17 = (i17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19)
          ∧ a18 = (i18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19)
          ∧ a19 = (i19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19)
          ∧ a10 = (s10 i arg10 arg13 harg13 arg14 c (lenAt i arg1 c f1) f10 f13 f14)
          ∧ a13 = (s13 i arg10 arg13 harg13 arg14 c (lenAt i arg1 c f1) f10 f13 f14)
          ∧ a14 = (s14 i arg10 arg13 harg13 arg14 c (lenAt i arg1 c f1) f10 f13 f14)
          ∧ b10 = (t10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (lenAt i arg1 c f1) (seqIdx i) (Scalar.subi (lenAt i arg1 c f1) (rowBase i)) f2 f3 f4 f7 f8 f9 a17 a10 a13 a14 a18 a19)
          ∧ b13 = (t13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (lenAt i arg1 c f1) (seqIdx i) (Scalar.subi (lenAt i arg1 c f1) (rowBase i)) f2 f3 f4 f7 f8 f9 a17 a10 a13 a14 a18 a19)
          ∧ b14 = (t14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (lenAt i arg1 c f1) (seqIdx i) (Scalar.subi (lenAt i arg1 c f1) (rowBase i)) f2 f3 f4 f7 f8 f9 a17 a10 a13 a14 a18 a19)
          ∧ b18 = (t18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (lenAt i arg1 c f1) (seqIdx i) (Scalar.subi (lenAt i arg1 c f1) (rowBase i)) f2 f3 f4 f7 f8 f9 a17 a10 a13 a14 a18 a19)
          ∧ b19 = (t19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (lenAt i arg1 c f1) (seqIdx i) (Scalar.subi (lenAt i arg1 c f1) (rowBase i)) f2 f3 f4 f7 f8 f9 a17 a10 a13 a14 a18 a19)
          ∧ b11 = (l11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 b18 b19 f11 f12 f15 f16)
          ∧ b12 = (l12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 b18 b19 f11 f12 f15 f16)
          ∧ b15 = (l15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 b18 b19 f11 f12 f15 f16)
          ∧ b16 = (l16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 b18 b19 f11 f12 f15 f16)

/-- The whole body run once, from every buffer it is handed at any contents. -/
theorem body_run (c : Dev nD) (q : PosShare TreeShare) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (K : PUnit → sProp 𝕄) :
    iprop(atq c q arg1 f1 ∗ at_ c arg2 f2 ∗ at_ c arg3 f3 ∗ at_ c arg4 f4 ∗ at_ c arg5 f5 ∗ at_ c arg6 f6 ∗ at_ c arg7 f7 ∗ at_ c arg8 f8 ∗ at_ c arg9 f9 ∗ at_ c arg10 f10 ∗ at_ c arg11 f11 ∗ at_ c arg12 f12 ∗ at_ c arg13 f13 ∗ at_ c arg14 f14 ∗ at_ c arg15 f15 ∗ at_ c arg16 f16 ∗ at_ c arg17 f17 ∗ at_ c arg18 f18 ∗ at_ c arg19 f19
      ∗ (∀ (a17 : Buf (Elt F) (arg17.view.loc (c : Thread nD τ))) (a18 : Buf (Elt F) (arg18.view.loc (c : Thread nD τ))) (a19 : Buf (Elt F) (arg19.view.loc (c : Thread nD τ))) (a10 : Buf (Elt F) (arg10.view.loc (c : Thread nD τ))) (a13 : Buf (Elt F) (arg13.view.loc (c : Thread nD τ))) (a14 : Buf (Elt F) (arg14.view.loc (c : Thread nD τ))) (b10 : Buf (Elt F) (arg10.view.loc (c : Thread nD τ))) (b13 : Buf (Elt F) (arg13.view.loc (c : Thread nD τ))) (b14 : Buf (Elt F) (arg14.view.loc (c : Thread nD τ))) (b18 : Buf (Elt F) (arg18.view.loc (c : Thread nD τ))) (b19 : Buf (Elt F) (arg19.view.loc (c : Thread nD τ))) (b11 : Buf (Elt F) (arg11.view.loc (c : Thread nD τ))) (b12 : Buf (Elt F) (arg12.view.loc (c : Thread nD τ))) (b15 : Buf (Elt F) (arg15.view.loc (c : Thread nD τ))) (b16 : Buf (Elt F) (arg16.view.loc (c : Thread nD τ))),
        ⌜BodyPost i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f2 f3 f4 f5 f6 f7 f8 f9 f10 f11 f12 f13 f14 f15 f16 f17 f18 f19 a17 a18 a19 a10 a13 a14 b10 b13 b14 b18 b19 b11 b12 b15 b16⌝
        -∗ iprop(atq c q arg1 f1 ∗ at_ c arg2 f2 ∗ at_ c arg3 f3 ∗ at_ c arg4 f4 ∗ at_ c arg5 f5 ∗ at_ c arg6 f6 ∗ at_ c arg7 f7 ∗ at_ c arg8 f8 ∗ at_ c arg9 f9 ∗ at_ c arg10 b10 ∗ at_ c arg11 b11 ∗ at_ c arg12 b12 ∗ at_ c arg13 b13 ∗ at_ c arg14 b14 ∗ at_ c arg15 b15 ∗ at_ c arg16 b16 ∗ at_ c arg17 a17 ∗ at_ c arg18 b18 ∗ at_ c arg19 b19) -∗ K ⟨⟩))
      ⊢ wp frame (wpE (defs₀ (F := F)) Variants.none c none) Set.univ (cc0_down_ln_pool i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  rw [body_eq, wp_bind]
  iintro ⟨H1, H2, H3, H4, H5, H6, H7, H8, H9, H10, H11, H12, H13, H14, H15, H16, H17, H18, H19, Hk⟩
  iapply (part95_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 f5 f6 f17 f18 f19 f10 f13 f14)
  isplitl [H1]; · iexact H1
  isplitl [H5]; · iexact H5
  isplitl [H6]; · iexact H6
  isplitl [H17]; · iexact H17
  isplitl [H18]; · iexact H18
  isplitl [H19]; · iexact H19
  isplitl [H10]; · iexact H10
  isplitl [H13]; · iexact H13
  isplitl [H14]; · iexact H14
  iintro ⟨H1, H5, H6, H17, H18, H19, H10, H13, H14⟩
  dsimp only
  iapply (tile_stage i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (lenAt i arg1 c f1) (seqIdx i) (Scalar.subi (lenAt i arg1 c f1) (rowBase i)) f2 f3 f4 f7 f8 f9 (i17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19) (s10 i arg10 arg13 harg13 arg14 c (lenAt i arg1 c f1) f10 f13 f14) (s13 i arg10 arg13 harg13 arg14 c (lenAt i arg1 c f1) f10 f13 f14) (s14 i arg10 arg13 harg13 arg14 c (lenAt i arg1 c f1) f10 f13 f14) (i18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19) (i19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19))
  isplitl [H2]; · iexact H2
  isplitl [H3]; · iexact H3
  isplitl [H4]; · iexact H4
  isplitl [H7]; · iexact H7
  isplitl [H8]; · iexact H8
  isplitl [H9]; · iexact H9
  isplitl [H17]; · iexact H17
  isplitl [H10]; · iexact H10
  isplitl [H13]; · iexact H13
  isplitl [H14]; · iexact H14
  isplitl [H18]; · iexact H18
  isplitl [H19]; · iexact H19
  iintro ⟨H2, H3, H4, H7, H8, H9, H17, H10, H13, H14, H18, H19⟩
  iapply (last_stage i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c q f1 _ _ f11 f12 f15 f16)
  isplitl [H1]; · iexact H1
  isplitl [H18]; · iexact H18
  isplitl [H19]; · iexact H19
  isplitl [H11]; · iexact H11
  isplitl [H12]; · iexact H12
  isplitl [H15]; · iexact H15
  isplitl [H16]; · iexact H16
  iintro ⟨H1, H18, H19, H11, H12, H15, H16⟩
  rw [wp_pure]; imodintro
  ispecialize Hk $$ %_ %_ %_ %_ %_ %_ %_ %_ %_ %_ %_ %_ %_ %_ %_ %⟨rfl, rfl, rfl, rfl, rfl, rfl, rfl, rfl, rfl, rfl, rfl, rfl, rfl, rfl, rfl⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

end Cert.KernelIdeal.Hand

end
-- ==== Proof.KFrame.lean ====
/-
  The launch around the body: any relation the body's runs maintain (`Track`, `StepOK`) holds of the final arrays.
  The scratch buffers' contents are carried from step to step by `Track.inv`; what a step leaves in a window's buffer is
  said by `Track.rel`.
-/
module

public import proofs.«01_k».proof.Proof.KBody
public import Idealize.ShloMosaic.Lib.Pipeline.FrameBody
public import Idealize.ShloMosaic.Lib.Pipeline.Frame
public import Idealize.ShloMosaic.Lib.Tactic
public import Idealize.ShloMosaic.Lib.WordCmp

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-- The memory the region finds on core `c`: the launch memory with the reshaped operands in place. -/
def V (c : Dev nD) (b : Ref sig .tc) : Buf (Elt F) ((c : Thread nD τ).loc b) := StableHlo.after hostOps0 (fun b => m (c, b)) b

/-- The table's contents, and that the pipeline admits them. -/
def tbl : pre0.Contents (Elt F) := fun k => V m 0 (pre0.ref k)
def adm : (p : Fin 1) → (pcfgs (F := F) p).Adm := fun _ => ⟨tbl m, by show ok0 (tbl m); unfold ok0; trivial⟩
abbrev cfgA : Pipeline.Cfg sig Λ₀ := cfg0 (adm m 0)

abbrev M1 : Memref sig .tc .smem S6 .i32 := Memref.whole main_arg8
abbrev S17 : Memref sig .tc .vmem S4096x1024 .bf16 := Memref.whole cc0_scratch0
abbrev S18 : Memref sig .tc .vmem S8x1024 .f32 := Memref.whole cc0_scratch1
abbrev S19 : Memref sig .tc .vmem S1x1024 .f32 := Memref.whole cc0_scratch2
abbrev st2 (t : Fin (cfgA m).N) : Memref sig .tc .vmem S128x1024 .bf16 := spec0_0.stage ((cfgA m).slots t 0)
abbrev hst2 (t : Fin (cfgA m).N) : (st2 m t).IsWhole := hstage0_0 (((cfgA m).slots t 0).cast nbuf0_0)
abbrev st3 (t : Fin (cfgA m).N) : Memref sig .tc .vmem S128x4096 .fp8e4m3 := spec0_1.stage ((cfgA m).slots t 1)
abbrev hst3 (t : Fin (cfgA m).N) : (st3 m t).IsWhole := hstage0_1 (((cfgA m).slots t 1).cast nbuf0_1)
abbrev st4 (t : Fin (cfgA m).N) : Memref sig .tc .vmem S128x32 .f32 := spec0_2.stage ((cfgA m).slots t 2)
abbrev hst4 (t : Fin (cfgA m).N) : (st4 m t).IsWhole := hstage0_2 (((cfgA m).slots t 2).cast nbuf0_2)
abbrev st5 (t : Fin (cfgA m).N) : Memref sig .tc .vmem S4096x1024 .fp8e4m3 := spec0_3.stage ((cfgA m).slots t 3)
abbrev hst5 (t : Fin (cfgA m).N) : (st5 m t).IsWhole := hstage0_3 (((cfgA m).slots t 3).cast nbuf0_3)
abbrev st6 (t : Fin (cfgA m).N) : Memref sig .tc .smem S32x8 .f32 := spec0_4.stage ((cfgA m).slots t 4)
abbrev hst6 (t : Fin (cfgA m).N) : (st6 m t).IsWhole := hstage0_4 (((cfgA m).slots t 4).cast nbuf0_4)
abbrev st7 (t : Fin (cfgA m).N) : Memref sig .tc .vmem S1x1024 .f32 := spec0_5.stage ((cfgA m).slots t 5)
abbrev hst7 (t : Fin (cfgA m).N) : (st7 m t).IsWhole := hstage0_5 (((cfgA m).slots t 5).cast nbuf0_5)
abbrev st8 (t : Fin (cfgA m).N) : Memref sig .tc .vmem S1x1024 .f32 := spec0_6.stage ((cfgA m).slots t 6)
abbrev hst8 (t : Fin (cfgA m).N) : (st8 m t).IsWhole := hstage0_6 (((cfgA m).slots t 6).cast nbuf0_6)
abbrev st9 (t : Fin (cfgA m).N) : Memref sig .tc .vmem S1x1024 .f32 := spec0_7.stage ((cfgA m).slots t 7)
abbrev hst9 (t : Fin (cfgA m).N) : (st9 m t).IsWhole := hstage0_7 (((cfgA m).slots t 7).cast nbuf0_7)
abbrev st10 (t : Fin (cfgA m).N) : Memref sig .tc .vmem S128x1024 .f32 := spec0_8.stage ((cfgA m).slots t 8)
abbrev hst10 (t : Fin (cfgA m).N) : (st10 m t).IsWhole := hstage0_8 (((cfgA m).slots t 8).cast nbuf0_8)
abbrev st11 (t : Fin (cfgA m).N) : Memref sig .tc .vmem S6x1024 .f32 := spec0_9.stage ((cfgA m).slots t 9)
abbrev hst11 (t : Fin (cfgA m).N) : (st11 m t).IsWhole := hstage0_9 (((cfgA m).slots t 9).cast nbuf0_9)
abbrev st12 (t : Fin (cfgA m).N) : Memref sig .tc .vmem S1x1024 .f32 := spec0_10.stage ((cfgA m).slots t 10)
abbrev hst12 (t : Fin (cfgA m).N) : (st12 m t).IsWhole := hstage0_10 (((cfgA m).slots t 10).cast nbuf0_10)
abbrev st13 (t : Fin (cfgA m).N) : Memref sig .tc .vmem S128x1024 .fp8e4m3 := spec0_11.stage ((cfgA m).slots t 11)
abbrev hst13 (t : Fin (cfgA m).N) : (st13 m t).IsWhole := hstage0_11 (((cfgA m).slots t 11).cast nbuf0_11)
abbrev st14 (t : Fin (cfgA m).N) : Memref sig .tc .vmem S128x8 .f32 := spec0_12.stage ((cfgA m).slots t 12)
abbrev hst14 (t : Fin (cfgA m).N) : (st14 m t).IsWhole := hstage0_12 (((cfgA m).slots t 12).cast nbuf0_12)
abbrev st15 (t : Fin (cfgA m).N) : Memref sig .tc .vmem S6x1024 .i8 := spec0_13.stage ((cfgA m).slots t 13)
abbrev hst15 (t : Fin (cfgA m).N) : (st15 m t).IsWhole := hstage0_13 (((cfgA m).slots t 13).cast nbuf0_13)
abbrev st16 (t : Fin (cfgA m).N) : Memref sig .tc .vmem S6x1 .f32 := spec0_14.stage ((cfgA m).slots t 14)
abbrev hst16 (t : Fin (cfgA m).N) : (st16 m t).IsWhole := hstage0_14 (((cfgA m).slots t 14).cast nbuf0_14)

/-- What is said of the scratch buffers before each step, and of what a step leaves in each window's buffer given what it found. -/
structure Track where
  inv : ℕ → (S4096x1024.Idx → Elt F .bf16) → (S8x1024.Idx → Elt F .f32) → (S1x1024.Idx → Elt F .f32) → Prop
  rel : (w : Fin 15) → Fin (cfgA m).N → (Y X : ((cfgA m).win w).block.Idx → Elt F ((cfgA m).win w).elt) → Prop

variable (T : Track m)

/-- The invariant between the steps. -/
def Phi (c : Dev nD) (n : ℕ) : sProp 𝕄 :=
  iprop(∃ (f17 : Buf (Elt F) (S17.view.loc (c : Thread nD τ))) (f18 : Buf (Elt F) (S18.view.loc (c : Thread nD τ))) (f19 : Buf (Elt F) (S19.view.loc (c : Thread nD τ))),
    ⌜T.inv n f17 f18 f19⌝ ∗ at_ c S17 f17 ∗ at_ c S18 f18 ∗ at_ c S19 f19
      ∗ atq c (fullShare : PosShare TreeShare).right M1 (V m c main_arg8) ∗ ∃ r, prngReg c r)

/-- The proof data on core `c`. -/
def rdat (c : Dev nD) : Pipeline.RDat τ (Elt F) Unit ℕ (UR sig nD τ) ℕ (cfgA m) c where
  A w := V m c (Pipeline.arrRef spec0 w)
  after w t := T.rel w t
  Φ t := Phi m T c t.val
  q _ := fullShare
  owed _ := 0

/-- The body's runs keep the relation: from buffers in it, whatever one run leaves is in it. -/
def StepOK : Prop :=
  ∀ (c : Dev nD) (t : Fin (cfgA m).N) (Y : (w : Fin 15) → ((cfgA m).win w).block.Idx → Elt F ((cfgA m).win w).elt),
    (∀ w, (rdat m T c).Finds w t (Y w)) →
    ∀ (f2 : Buf (Elt F) ((st2 m t).view.loc (c : Thread nD τ))) (f3 : Buf (Elt F) ((st3 m t).view.loc (c : Thread nD τ))) (f4 : Buf (Elt F) ((st4 m t).view.loc (c : Thread nD τ))) (f5 : Buf (Elt F) ((st5 m t).view.loc (c : Thread nD τ))) (f6 : Buf (Elt F) ((st6 m t).view.loc (c : Thread nD τ))) (f7 : Buf (Elt F) ((st7 m t).view.loc (c : Thread nD τ))) (f8 : Buf (Elt F) ((st8 m t).view.loc (c : Thread nD τ))) (f9 : Buf (Elt F) ((st9 m t).view.loc (c : Thread nD τ))) (f10 : Buf (Elt F) ((st10 m t).view.loc (c : Thread nD τ))) (f11 : Buf (Elt F) ((st11 m t).view.loc (c : Thread nD τ))) (f12 : Buf (Elt F) ((st12 m t).view.loc (c : Thread nD τ))) (f13 : Buf (Elt F) ((st13 m t).view.loc (c : Thread nD τ))) (f14 : Buf (Elt F) ((st14 m t).view.loc (c : Thread nD τ))) (f15 : Buf (Elt F) ((st15 m t).view.loc (c : Thread nD τ))) (f16 : Buf (Elt F) ((st16 m t).view.loc (c : Thread nD τ))) (f17 : Buf (Elt F) (S17.view.loc (c : Thread nD τ))) (f18 : Buf (Elt F) (S18.view.loc (c : Thread nD τ))) (f19 : Buf (Elt F) (S19.view.loc (c : Thread nD τ))) (a17 : Buf (Elt F) (S17.view.loc (c : Thread nD τ))) (a18 : Buf (Elt F) (S18.view.loc (c : Thread nD τ))) (a19 : Buf (Elt F) (S19.view.loc (c : Thread nD τ))) (a10 : Buf (Elt F) ((st10 m t).view.loc (c : Thread nD τ))) (a13 : Buf (Elt F) ((st13 m t).view.loc (c : Thread nD τ))) (a14 : Buf (Elt F) ((st14 m t).view.loc (c : Thread nD τ))) (b10 : Buf (Elt F) ((st10 m t).view.loc (c : Thread nD τ))) (b13 : Buf (Elt F) ((st13 m t).view.loc (c : Thread nD τ))) (b14 : Buf (Elt F) ((st14 m t).view.loc (c : Thread nD τ))) (b18 : Buf (Elt F) (S18.view.loc (c : Thread nD τ))) (b19 : Buf (Elt F) (S19.view.loc (c : Thread nD τ))) (b11 : Buf (Elt F) ((st11 m t).view.loc (c : Thread nD τ))) (b12 : Buf (Elt F) ((st12 m t).view.loc (c : Thread nD τ))) (b15 : Buf (Elt F) ((st15 m t).view.loc (c : Thread nD τ))) (b16 : Buf (Elt F) ((st16 m t).view.loc (c : Thread nD τ))),
    (st2 m t).view.read (Elt F) f2 = Y 0 →
    (st3 m t).view.read (Elt F) f3 = Y 1 →
    (st4 m t).view.read (Elt F) f4 = Y 2 →
    (st5 m t).view.read (Elt F) f5 = Y 3 →
    (st6 m t).view.read (Elt F) f6 = Y 4 →
    (st7 m t).view.read (Elt F) f7 = Y 5 →
    (st8 m t).view.read (Elt F) f8 = Y 6 →
    (st9 m t).view.read (Elt F) f9 = Y 7 →
    (st10 m t).view.read (Elt F) f10 = Y 8 →
    (st11 m t).view.read (Elt F) f11 = Y 9 →
    (st12 m t).view.read (Elt F) f12 = Y 10 →
    (st13 m t).view.read (Elt F) f13 = Y 11 →
    (st14 m t).view.read (Elt F) f14 = Y 12 →
    (st15 m t).view.read (Elt F) f15 = Y 13 →
    (st16 m t).view.read (Elt F) f16 = Y 14 →
    T.inv t.val f17 f18 f19 →
    BodyPost (grid0.coords t) M1 (Memref.isWhole_whole _) (st2 m t) (hst2 m t) (st3 m t) (hst3 m t) (st4 m t) (hst4 m t) (st5 m t) (hst5 m t) (st6 m t) (hst6 m t) (st7 m t) (hst7 m t) (st8 m t) (hst8 m t) (st9 m t) (hst9 m t) (st10 m t) (hst10 m t) (st11 m t) (hst11 m t) (st12 m t) (hst12 m t) (st13 m t) (hst13 m t) (st14 m t) (hst14 m t) (st15 m t) (hst15 m t) (st16 m t) (hst16 m t) S17 (Memref.isWhole_whole _) S18 (Memref.isWhole_whole _) S19 (Memref.isWhole_whole _) c (fullShare : PosShare TreeShare).right (V m c main_arg8) f2 f3 f4 f5 f6 f7 f8 f9 f10 f11 f12 f13 f14 f15 f16 f17 f18 f19 a17 a18 a19 a10 a13 a14 b10 b13 b14 b18 b19 b11 b12 b15 b16 →
    T.inv (t.val + 1) a17 b18 b19 ∧ (∀ w : Fin 15, w.val < 8 → T.rel w t (Y w) (Y w))
      ∧ T.rel 8 t (Y 8) ((st10 m t).view.read (Elt F) b10)
      ∧ T.rel 9 t (Y 9) ((st11 m t).view.read (Elt F) b11)
      ∧ T.rel 10 t (Y 10) ((st12 m t).view.read (Elt F) b12)
      ∧ T.rel 11 t (Y 11) ((st13 m t).view.read (Elt F) b13)
      ∧ T.rel 12 t (Y 12) ((st14 m t).view.read (Elt F) b14)
      ∧ T.rel 13 t (Y 13) ((st15 m t).view.read (Elt F) b15)
      ∧ T.rel 14 t (Y 14) ((st16 m t).view.read (Elt F) b16)

/-- The body as the pipeline calls it at point `t`. -/
def bodyAt (t : Fin (cfgA m).N) : Prog (TpuEff nD τ sig (Elt F) Λ₀ .tc) PUnit :=
  cc0_down_ln_pool (grid0.coords t) M1 (Memref.isWhole_whole _) (st2 m t) (hst2 m t) (st3 m t) (hst3 m t) (st4 m t) (hst4 m t) (st5 m t) (hst5 m t) (st6 m t) (hst6 m t) (st7 m t) (hst7 m t) (st8 m t) (hst8 m t) (st9 m t) (hst9 m t) (st10 m t) (hst10 m t) (st11 m t) (hst11 m t) (st12 m t) (hst12 m t) (st13 m t) (hst13 m t) (st14 m t) (hst14 m t) (st15 m t) (hst15 m t) (st16 m t) (hst16 m t) S17 (Memref.isWhole_whole _) S18 (Memref.isWhole_whole _) S19 (Memref.isWhole_whole _)

theorem defs₀_row (t : Fin (cfgA m).N) : defs₀ (F := F) .tc (cfgA m).body ((cfgA m).bodyArgs t ((cfgA m).slots t)) = bodyAt m t := by
  unfold defs₀; rw [Defs.onTc_tc]; rfl

/-- The body at one step, from what the pipeline hands it to what it hands back. -/
theorem sound_body (hT : StepOK m T) (c : Dev nD) (t : Fin (cfgA m).N) (Y : (w : Fin 15) → ((cfgA m).win w).block.Idx → Elt F ((cfgA m).win w).elt)
    (hY : ∀ w, (rdat m T c).Finds w t (Y w)) :
    iprop(Phi m T c t.val ∗ (rdat m T c).owesAt () t.castSucc ∗ owns (c : Thread nD τ) (st2 m t) fullShare (Y 0) ∗ owns (c : Thread nD τ) (st3 m t) fullShare (Y 1) ∗ owns (c : Thread nD τ) (st4 m t) fullShare (Y 2) ∗ owns (c : Thread nD τ) (st5 m t) fullShare (Y 3) ∗ owns (c : Thread nD τ) (st6 m t) fullShare (Y 4) ∗ owns (c : Thread nD τ) (st7 m t) fullShare (Y 5) ∗ owns (c : Thread nD τ) (st8 m t) fullShare (Y 6) ∗ owns (c : Thread nD τ) (st9 m t) fullShare (Y 7) ∗ owns (c : Thread nD τ) (st10 m t) fullShare (Y 8) ∗ owns (c : Thread nD τ) (st11 m t) fullShare (Y 9) ∗ owns (c : Thread nD τ) (st12 m t) fullShare (Y 10) ∗ owns (c : Thread nD τ) (st13 m t) fullShare (Y 11) ∗ owns (c : Thread nD τ) (st14 m t) fullShare (Y 12) ∗ owns (c : Thread nD τ) (st15 m t) fullShare (Y 13) ∗ owns (c : Thread nD τ) (st16 m t) fullShare (Y 14))
      ⊢ wp frame (wpE (defs₀ (F := F)) Variants.none c none) Set.univ (bodyAt m t) fun _ =>
        iprop(Phi m T c (t.val + 1) ∗ (rdat m T c).owesAt () t.succ ∗ (∃ X, ⌜T.rel 0 t (Y 0) X⌝ ∗ owns (c : Thread nD τ) (st2 m t) fullShare X) ∗ (∃ X, ⌜T.rel 1 t (Y 1) X⌝ ∗ owns (c : Thread nD τ) (st3 m t) fullShare X) ∗ (∃ X, ⌜T.rel 2 t (Y 2) X⌝ ∗ owns (c : Thread nD τ) (st4 m t) fullShare X) ∗ (∃ X, ⌜T.rel 3 t (Y 3) X⌝ ∗ owns (c : Thread nD τ) (st5 m t) fullShare X) ∗ (∃ X, ⌜T.rel 4 t (Y 4) X⌝ ∗ owns (c : Thread nD τ) (st6 m t) fullShare X) ∗ (∃ X, ⌜T.rel 5 t (Y 5) X⌝ ∗ owns (c : Thread nD τ) (st7 m t) fullShare X) ∗ (∃ X, ⌜T.rel 6 t (Y 6) X⌝ ∗ owns (c : Thread nD τ) (st8 m t) fullShare X) ∗ (∃ X, ⌜T.rel 7 t (Y 7) X⌝ ∗ owns (c : Thread nD τ) (st9 m t) fullShare X) ∗ (∃ X, ⌜T.rel 8 t (Y 8) X⌝ ∗ owns (c : Thread nD τ) (st10 m t) fullShare X) ∗ (∃ X, ⌜T.rel 9 t (Y 9) X⌝ ∗ owns (c : Thread nD τ) (st11 m t) fullShare X) ∗ (∃ X, ⌜T.rel 10 t (Y 10) X⌝ ∗ owns (c : Thread nD τ) (st12 m t) fullShare X) ∗ (∃ X, ⌜T.rel 11 t (Y 11) X⌝ ∗ owns (c : Thread nD τ) (st13 m t) fullShare X) ∗ (∃ X, ⌜T.rel 12 t (Y 12) X⌝ ∗ owns (c : Thread nD τ) (st14 m t) fullShare X) ∗ (∃ X, ⌜T.rel 13 t (Y 13) X⌝ ∗ owns (c : Thread nD τ) (st15 m t) fullShare X) ∗ (∃ X, ⌜T.rel 14 t (Y 14) X⌝ ∗ owns (c : Thread nD τ) (st16 m t) fullShare X)) := by
  rw [show (rdat m T c).owesAt () t.succ = (rdat m T c).owesAt () t.castSucc from rfl]
  unfold Phi bodyAt owns
  iintro ⟨⟨%f17, %f18, %f19, %hinv, H17, H18, H19, H1, Hp⟩, HO, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩⟩
  iapply (body_run (grid0.coords t) M1 (Memref.isWhole_whole _) (st2 m t) (hst2 m t) (st3 m t) (hst3 m t) (st4 m t) (hst4 m t) (st5 m t) (hst5 m t) (st6 m t) (hst6 m t) (st7 m t) (hst7 m t) (st8 m t) (hst8 m t) (st9 m t) (hst9 m t) (st10 m t) (hst10 m t) (st11 m t) (hst11 m t) (st12 m t) (hst12 m t) (st13 m t) (hst13 m t) (st14 m t) (hst14 m t) (st15 m t) (hst15 m t) (st16 m t) (hst16 m t) S17 (Memref.isWhole_whole _) S18 (Memref.isWhole_whole _) S19 (Memref.isWhole_whole _) c (fullShare : PosShare TreeShare).right (V m c main_arg8) f2 f3 f4 f5 f6 f7 f8 f9 f10 f11 f12 f13 f14 f15 f16 f17 f18 f19)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro %a17 %a18 %a19 %a10 %a13 %a14 %b10 %b13 %b14 %b18 %b19 %b11 %b12 %b15 %b16 %hpost ⟨H1, H2, H3, H4, H5, H6, H7, H8, H9, H10, H11, H12, H13, H14, H15, H16, H17, H18, H19⟩
  obtain ⟨hinv', hin, r10, r11, r12, r13, r14, r15, r16⟩ := hT c t Y hY f2 f3 f4 f5 f6 f7 f8 f9 f10 f11 f12 f13 f14 f15 f16 f17 f18 f19 a17 a18 a19 a10 a13 a14 b10 b13 b14 b18 b19 b11 b12 b15 b16 h2 h3 h4 h5 h6 h7 h8 h9 h10 h11 h12 h13 h14 h15 h16 hinv hpost
  isplitl [H17 H18 H19 H1 Hp]
  · iexists a17, b18, b19
    isplitr; · ipureintro; exact hinv'
    isplitl [H17]; · iexact H17
    isplitl [H18]; · iexact H18
    isplitl [H19]; · iexact H19
    isplitl [H1]; · iexact H1
    iexact Hp
  isplitl [HO]; · iexact HO
  isplitl [H2]
  · iexists Y 0; isplitr; · ipureintro; exact hin 0 (by decide)
    iexists f2; isplitr; · ipureintro; exact h2
    iexact H2
  isplitl [H3]
  · iexists Y 1; isplitr; · ipureintro; exact hin 1 (by decide)
    iexists f3; isplitr; · ipureintro; exact h3
    iexact H3
  isplitl [H4]
  · iexists Y 2; isplitr; · ipureintro; exact hin 2 (by decide)
    iexists f4; isplitr; · ipureintro; exact h4
    iexact H4
  isplitl [H5]
  · iexists Y 3; isplitr; · ipureintro; exact hin 3 (by decide)
    iexists f5; isplitr; · ipureintro; exact h5
    iexact H5
  isplitl [H6]
  · iexists Y 4; isplitr; · ipureintro; exact hin 4 (by decide)
    iexists f6; isplitr; · ipureintro; exact h6
    iexact H6
  isplitl [H7]
  · iexists Y 5; isplitr; · ipureintro; exact hin 5 (by decide)
    iexists f7; isplitr; · ipureintro; exact h7
    iexact H7
  isplitl [H8]
  · iexists Y 6; isplitr; · ipureintro; exact hin 6 (by decide)
    iexists f8; isplitr; · ipureintro; exact h8
    iexact H8
  isplitl [H9]
  · iexists Y 7; isplitr; · ipureintro; exact hin 7 (by decide)
    iexists f9; isplitr; · ipureintro; exact h9
    iexact H9
  isplitl [H10]
  · iexists _; isplitr; · ipureintro; exact r10
    iexists b10; isplitr; · ipureintro; rfl
    iexact H10
  isplitl [H11]
  · iexists _; isplitr; · ipureintro; exact r11
    iexists b11; isplitr; · ipureintro; rfl
    iexact H11
  isplitl [H12]
  · iexists _; isplitr; · ipureintro; exact r12
    iexists b12; isplitr; · ipureintro; rfl
    iexact H12
  isplitl [H13]
  · iexists _; isplitr; · ipureintro; exact r13
    iexists b13; isplitr; · ipureintro; rfl
    iexact H13
  isplitl [H14]
  · iexists _; isplitr; · ipureintro; exact r14
    iexists b14; isplitr; · ipureintro; rfl
    iexact H14
  isplitl [H15]
  · iexists _; isplitr; · ipureintro; exact r15
    iexists b15; isplitr; · ipureintro; rfl
    iexact H15
  iexists _; isplitr; · ipureintro; exact r16
  iexists b16; isplitr; · ipureintro; rfl
  iexact H16

theorem body_obligation (hT : StepOK m T) (c : Dev nD) : (rdat m T c).BodyObligation (defs₀ (F := F)) Variants.none () Set.univ := fun t Y hY => by
  rw [bigSep_W0, bigSep_W0, defs₀_row]
  exact triple_restated (sound_body m T hT c t Y hY) rfl .rfl fun _ => .rfl

theorem prefHeld0_eq (c : Dev nD) (v : pre0.Contents (Elt F)) :
    (Pipeline.ΦT pre0 v c : sProp 𝕄) = iprop(((c : Thread nD τ).loc main_arg8) ↦{(fullShare : PosShare TreeShare).right} v 0) := by
  unfold Pipeline.ΦT Pipeline.prefHeld
  rw [BI.bigSep_eq_bigSepL_of_eq [(0 : Fin 1)] (by decide) (by decide)]; rfl

/-- The invariant before the first step, from the scratch buffers at anything. -/
theorem phi_zero (h0 : ∀ f17 f18 f19, T.inv 0 f17 f18 f19) (c : Dev nD) :
    iprop(Pipeline.ΦA spec0 c ∗ Pipeline.ΦT pre0 (tbl m) c) ⊢ (Phi m T c 0 : sProp 𝕄) := by
  rw [prefHeld0_eq]
  unfold Pipeline.ΦA Phi
  rw [scopedRest0_eq]
  obtain rfl : c = 0 := Subsingleton.elim _ _
  simp only [at_, atq, S17, S18, S19, M1, Memref.view_whole, View.set_whole]
  iintro ⟨⟨⟨⟨%f17, H17⟩, ⟨%f18, H18⟩, ⟨%f19, H19⟩⟩, Hp⟩, H1⟩
  iexists f17, f18, f19
  isplitr; · ipureintro; exact h0 _ _ _
  isplitl [H17]; · iexact H17
  isplitl [H18]; · iexact H18
  isplitl [H19]; · iexact H19
  isplitl [H1]; · iexact H1
  iexact Hp

/-- The class invariant after the last step: the scratch forgotten, the table let go. -/
theorem phi_last (c : Dev nD) (n : ℕ) : (Phi m T c n : sProp 𝕄) ⊢ Pipeline.ΦA spec0 c := by
  unfold Pipeline.ΦA Phi
  rw [scopedRest0_eq]
  simp only [at_, atq, S17, S18, S19, M1, Memref.view_whole, View.set_whole]
  iintro ⟨%f17, %f18, %f19, -, H17, H18, H19, -, Hp⟩
  isplitr [Hp]
  · isplitl [H17]; · iexists f17; iexact H17
    isplitl [H18]; · iexists f18; iexact H18
    iexists f19; iexact H19
  iexact Hp

set_option backward.isDefEq.respectTransparency.types false in
/-- Every execution terminates with the final arrays in the relation, the other buffers as the region found them and every
    semaphore at zero. -/
theorem run_main (hT : StepOK m T) (h0 : ∀ f17 f18 f19, T.inv 0 f17 f18 f19) :
    θ_run defs (onTc (τ := τ) (main (F := F))) (s₀ m ρ)
      (fun r => Pipeline.RDat.FramePost (cfgA m) (rdat m T) (V m) r ∧ r.2.sem = fun _ => 0) :=
  Pipeline.RDat.θ_run_frameP_track (Q' := _) pcfgs (adm m) (0 : Fin 1) launch0 defs₀ Variants.none (rdat m T) m ρ main
    (hbody := body_obligation m T hT)
    (hshare := fun c w => by unfold Pipeline.RDat.share; split <;> rfl)
    (howed := fun _ _ => rfl) (V := V m)
    (hmain := Pipeline.hmainP_prefix pcfgs 0 defs₀ Variants.none m main hostOps0 hostOps0_sub ⟨rfl, rfl, rfl, rfl, rfl, rfl⟩ main_chain)
    (hA := fun _ _ => rfl) (hpf := fun c k => by obtain rfl : c = 0 := Subsingleton.elim _ _; rfl)
    (hin := fun c => phi_zero m T h0 c) (hout := fun c => phi_last m T c _)
    (hQ' := fun _ h => h)

end Cert.KernelIdeal.Hand

end
-- ==== Proof.KWeight.lean ====
/-
  The dequantised weight that the kernel's first grid point leaves in its scratch buffer, read at an index.
-/
module

public import proofs.«01_k».proof.Proof.KFrame
public import Idealize.ShloMosaic.Lib.Pipeline.FrameBody
public import Idealize.ShloMosaic.Lib.Pipeline.Frame
public import Idealize.ShloMosaic.Lib.Tactic
public import Idealize.ShloMosaic.Lib.WordCmp
public import Idealize.ShloMosaic.Lib.Ring
public import Idealize.ShloMosaic.Lib.Pointwise
public import Idealize.ShloMosaic.PureOps.Ideal.Laws

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (i : grid0.Coords) (arg1 : Memref sig .tc .smem S6 .i32) (harg1 : arg1.IsWhole) (arg2 : Memref sig .tc .vmem S128x1024 .bf16) (harg2 : arg2.IsWhole) (arg3 : Memref sig .tc .vmem S128x4096 .fp8e4m3) (harg3 : arg3.IsWhole) (arg4 : Memref sig .tc .vmem S128x32 .f32) (harg4 : arg4.IsWhole) (arg5 : Memref sig .tc .vmem S4096x1024 .fp8e4m3) (harg5 : arg5.IsWhole) (arg6 : Memref sig .tc .smem S32x8 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S6x1024 .f32) (harg11 : arg11.IsWhole) (arg12 : Memref sig .tc .vmem S1x1024 .f32) (harg12 : arg12.IsWhole) (arg13 : Memref sig .tc .vmem S128x1024 .fp8e4m3) (harg13 : arg13.IsWhole) (arg14 : Memref sig .tc .vmem S128x8 .f32) (harg14 : arg14.IsWhole) (arg15 : Memref sig .tc .vmem S6x1024 .i8) (harg15 : arg15.IsWhole) (arg16 : Memref sig .tc .vmem S6x1 .f32) (harg16 : arg16.IsWhole) (arg17 : Memref sig .tc .vmem S4096x1024 .bf16) (harg17 : arg17.IsWhole) (arg18 : Memref sig .tc .vmem S8x1024 .f32) (harg18 : arg18.IsWhole) (arg19 : Memref sig .tc .vmem S1x1024 .f32) (harg19 : arg19.IsWhole)
/-- The dequantised weight at an index: the stored value times the scale of its block. -/
def deq (w : S4096x1024.Idx → EReal) (s : S32x8.Idx → EReal) (y : S4096x1024.Idx) : EReal :=
  w y * s (ix2 ⟨(y 0).val / 128, Nat.div_lt_of_lt_mul (y 0).isLt⟩ ⟨(y 1).val / 128, Nat.div_lt_of_lt_mul (y 1).isLt⟩)

section
variable (c : Dev nD) (f5 : Buf (Elt Ideal) (arg5.view.loc (c : Thread nD τ))) (f6 : Buf (Elt Ideal) (arg6.view.loc (c : Thread nD τ))) (f17 : Buf (Elt Ideal) (arg17.view.loc (c : Thread nD τ))) (f18 : Buf (Elt Ideal) (arg18.view.loc (c : Thread nD τ))) (f19 : Buf (Elt Ideal) (arg19.view.loc (c : Thread nD τ)))

/-- One stored block of the dequantised weight, element by element. -/
theorem piece_good {a b p q : ℕ} (ha : a = 128 * p) (hb : b = 128 * q) (inb : ∀ i, (![a, b] : Fin 2 → ℕ) i + S128x128.size i ≤ S4096x1024.size i)
    (inb' : ∀ i, (![p, q] : Fin 2 → ℕ) i + S1x1.size i ≤ S32x8.size i) (hn : 0 < S1x1.numel) (hsc : S128x128.ShapeCasts S128x128) (x : S128x128.Idx) :
    (shapeCast S128x128 (mulf (extf (F := Ideal) .bf16 (arg5.view.readAt (Elt Ideal) (Rect.unit (s := S4096x1024) ![a, b] S128x128.size inb).toLoadRect f5) bitsLt_fp8e4m3_bf16)
      (broadcast S128x128 (Scalar.truncf (F := Ideal) .bf16 bitsLt_bf16_f32 (arg6.view.readAt (Elt Ideal) (Rect.unit (s := S32x8) ![p, q] S1x1.size inb').toLoadRect f6 (Shape.Idx.first hn))))) hsc) x
    = deq (arg5.view.read (Elt Ideal) f5) (arg6.view.read (Elt Ideal) f6) ((Rect.unit (s := S4096x1024) ![a, b] S128x128.size inb).emb x) := by
  subst ha hb
  refine (congrFun (shapeCast_self _ _) x).trans ?_
  unfold deq
  refine congrArg₂ (fun u v : EReal => u * v) rfl (congrArg (arg6.view.read (Elt Ideal) f6) (funext fun i => Fin.ext ?_))
  have h0 := (x 0).isLt; have h1 := (x 1).isLt
  change _ < 128 at h0 h1
  fin_cases i
  · show p + 1 * 0 = (128 * p + 1 * (x 0).val) / 128
    omega
  · show q + 1 * 0 = (128 * q + 1 * (x 1).val) / 128
    omega

/-- Every block the first grid step stores. -/
theorem pieces_good : ∀ P ∈ (initRun (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19).1.1, ∀ x : P.1.shape.Idx,
    P.2 x = deq (arg5.view.read (Elt Ideal) f5) (arg6.view.read (Elt Ideal) f6) (P.1.emb x) := by
  unfold initRun
  dsimp only
  repeat' first
    | exact List.forall_mem_nil _
    | refine List.forall_mem_cons.mpr ⟨fun x => piece_good arg5 arg6 c f5 f6 (by decide) (by decide) _ _ _ _ x, ?_⟩

/-- The dequantised weight after the first grid step. -/
theorem weight_read : arg17.view.read (Elt Ideal) (arg17.view.writes (Elt Ideal) f17 (initRun (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19).1.1)
    = deq (arg5.view.read (Elt Ideal) f5) (arg6.view.read (Elt Ideal) f6) :=
  funext fun y => View.read_writes_apply_of_pieces _ _ _ _ (pieces_good i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c f5 f6 f17 f18 f19) y
    (View.cover_of_tiledL _ ![128, 128] (by unfold initRun; dsimp only; sl_kernel_rfl) y)
end

end Cert.KernelIdeal.Hand

end
-- ==== Proof.Rows.lean ====
/-
  What one row of the result is, as plain functions of the row's numbers, and the two programs' expressions read as those functions.
-/
module

public import proofs.«01_k».proof.Proof.Gen.KernelIdeal.Skeleton
public import proofs.«01_k».proof.Proof.Gen.ReferenceIdeal.Skeleton
public import Idealize.ShloMosaic.Lib.Pointwise
public import Idealize.ShloMosaic.PureOps.Ideal.Laws

@[expose] public section

set_option maxRecDepth 65536

noncomputable section

namespace Cert.Rows

open Idealize.ShloMosaic

/-- One element of the projected row: the residual, the product of the row with a column of the weight, the bias. -/
def lin (x : EReal) (h w : Fin 4096 → EReal) (b : EReal) : EReal := x + ∑ k, h k * w k + b

/-- The mean of a row. -/
def mean (y : Fin 1024 → EReal) : EReal := Ideal.div (∑ k, y k) (Ideal.ofBits FTy.f32 0x44800000#32)

/-- The layer norm of a row `y` with weights `g` and offsets `b`, at column `j`. -/
def norm (y g b : Fin 1024 → EReal) (j : Fin 1024) : EReal :=
  (y j - mean y) * Ideal.rsqrt (Ideal.div (∑ k, (y k - mean y) * (y k - mean y)) (Ideal.ofBits FTy.f32 0x44800000#32)
    + Ideal.ofBits FTy.f32 0x3727C5AC#32) * g j + b j

open Cert.KernelIdeal in
/-- The kernel's masked layer norm at an index. -/
theorem kernel_norm (y : FVec Ideal S128x1024 .f32) (v : IVec S128x1 1) (g b : FVec Ideal S1x1024 .f32) (r : Fin 128) (j : Fin 1024) :
    Cert.KernelIdeal.Gen.k0_pay369 y v g b (ix2 r j)
      = Scalar.select (v (ix2 r 0)) (norm (fun j => y (ix2 r j)) (fun j => g (ix2 0 j)) (fun j => b (ix2 0 j)) j) 0 := by
  pointwise [Cert.KernelIdeal.Gen.k0_pay369]
  rfl

open Cert.ReferenceIdeal in
/-- The reference's masked layer norm of the projected row at an index. -/
theorem reference_norm (v0 : Vec Ideal S1536x4096 .fp8e4m3) (v3 : Vec Ideal S1536x4096 .bf16) (v6 : Vec Ideal S4096x1024 .fp8e4m3) (v8 : Vec Ideal S4096x1024 .bf16)
    (v12 : Vec Ideal S1536x1024 .bf16) (v16 : Vec Ideal S1x1024 .f32) (v20 : Vec Ideal S1536x1 .i32) (g b : Vec Ideal S1x1024 .f32) (r : Fin 1536) (j : Fin 1024) :
    Cert.ReferenceIdeal.Gen.k0_pay7 (F := Ideal) (Cert.ReferenceIdeal.Gen.k0_pay3 v0 v3 v6 v8 v12 v16) (Cert.ReferenceIdeal.Gen.k0_pay4 (F := Ideal) v20)
        (Cert.ReferenceIdeal.Gen.k0_pay6 v0 v3 v6 v8 v12 v16) g b (ix2 r j)
      = Scalar.select (IntOp.cmpi .sgt (v20 (ix2 r 0)) 0#32)
          (norm (fun j => lin (v12 (ix2 r j)) (fun k => v0 (ix2 r k) * v3 (ix2 r k)) (fun k => v6 (ix2 k j) * v8 (ix2 k j)) (v16 (ix2 0 j)))
            (fun j => g (ix2 0 j)) (fun j => b (ix2 0 j)) j) 0 := by
  pointwise [Cert.ReferenceIdeal.Gen.k0_pay7, Cert.ReferenceIdeal.Gen.k0_pay3, Cert.ReferenceIdeal.Gen.k0_pay4, Cert.ReferenceIdeal.Gen.k0_pay6]
  rfl

open Cert.KernelIdeal in
/-- The masked result at row `R` (of all sequences one after the other) and column `j`, from the nine arguments: the layer norm
    of the projected row if the row lies below its sequence's length, else zero. -/
def result (x : S6x256x1024.Idx → EReal) (h : S6x256x4096.Idx → EReal) (s : S6x256x32.Idx → EReal) (w : S4096x1024.Idx → EReal)
    (ws : S32x8.Idx → EReal) (b g e : S1024.Idx → EReal) (len : S6.Idx → BitVec 32) (R : Fin 1536) (j : Fin 1024) : EReal :=
  Scalar.select (IntOp.cmpi .slt (BitVec.ofNat 32 (R.val % 256)) (len (ix1 ⟨R.val / 256, by omega⟩)))
    (norm (fun j => lin (x (ix3 ⟨R.val / 256, by omega⟩ ⟨R.val % 256, by omega⟩ j))
        (fun k => h (ix3 ⟨R.val / 256, by omega⟩ ⟨R.val % 256, by omega⟩ k)
          * s (ix3 ⟨R.val / 256, by omega⟩ ⟨R.val % 256, by omega⟩ ⟨k.val / 128, by omega⟩))
        (fun k => w (ix2 k j) * ws (ix2 ⟨k.val / 128, by omega⟩ ⟨j.val / 128, by omega⟩)) (b (ix1 j)))
      (fun j => g (ix1 j)) (fun j => e (ix1 j)) j) 0

end Cert.Rows

end
-- ==== Proof.KTileRead.lean ====
/-
  The masked layer norm the kernel stores for one tile of rows, read at an index.
-/
module

public import proofs.«01_k».proof.Proof.KWeight
public import proofs.«01_k».proof.Proof.Rows
public import Idealize.ShloMosaic.Lib.VecWindow
public import Idealize.ShloMosaic.Lib.Pipeline.FrameBody
public import Idealize.ShloMosaic.Lib.Pipeline.Frame
public import Idealize.ShloMosaic.Lib.Tactic
public import Idealize.ShloMosaic.Lib.WordCmp
public import Idealize.ShloMosaic.Lib.Ring
public import Idealize.ShloMosaic.Lib.Pointwise
public import Idealize.ShloMosaic.PureOps.Ideal.Laws

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (i : grid0.Coords) (arg1 : Memref sig .tc .smem S6 .i32) (harg1 : arg1.IsWhole) (arg2 : Memref sig .tc .vmem S128x1024 .bf16) (harg2 : arg2.IsWhole) (arg3 : Memref sig .tc .vmem S128x4096 .fp8e4m3) (harg3 : arg3.IsWhole) (arg4 : Memref sig .tc .vmem S128x32 .f32) (harg4 : arg4.IsWhole) (arg5 : Memref sig .tc .vmem S4096x1024 .fp8e4m3) (harg5 : arg5.IsWhole) (arg6 : Memref sig .tc .smem S32x8 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S6x1024 .f32) (harg11 : arg11.IsWhole) (arg12 : Memref sig .tc .vmem S1x1024 .f32) (harg12 : arg12.IsWhole) (arg13 : Memref sig .tc .vmem S128x1024 .fp8e4m3) (harg13 : arg13.IsWhole) (arg14 : Memref sig .tc .vmem S128x8 .f32) (harg14 : arg14.IsWhole) (arg15 : Memref sig .tc .vmem S6x1024 .i8) (harg15 : arg15.IsWhole) (arg16 : Memref sig .tc .vmem S6x1 .f32) (harg16 : arg16.IsWhole) (arg17 : Memref sig .tc .vmem S4096x1024 .bf16) (harg17 : arg17.IsWhole) (arg18 : Memref sig .tc .vmem S8x1024 .f32) (harg18 : arg18.IsWhole) (arg19 : Memref sig .tc .vmem S1x1024 .f32) (harg19 : arg19.IsWhole)
section
variable (c : Dev nD) (v16 v30 : BitVec 32) (f2 : Buf (Elt Ideal) (arg2.view.loc (c : Thread nD τ))) (f3 : Buf (Elt Ideal) (arg3.view.loc (c : Thread nD τ))) (f4 : Buf (Elt Ideal) (arg4.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f17 : Buf (Elt Ideal) (arg17.view.loc (c : Thread nD τ))) (f10 : Buf (Elt Ideal) (arg10.view.loc (c : Thread nD τ))) (f13 : Buf (Elt Ideal) (arg13.view.loc (c : Thread nD τ))) (f14 : Buf (Elt Ideal) (arg14.view.loc (c : Thread nD τ))) (f18 : Buf (Elt Ideal) (arg18.view.loc (c : Thread nD τ))) (f19 : Buf (Elt Ideal) (arg19.view.loc (c : Thread nD τ)))

/-- Each group of 128 columns lies inside the tile of codes. -/
theorem hblock_inb (k : Fin 32) : ∀ a, (![0, 128 * k.val] : Fin 2 → ℕ) a + S128x128.size a ≤ S128x4096.size a := by
  intro a; fin_cases a
  · show 0 + 128 ≤ 128; omega
  · show 128 * k.val + 128 ≤ 4096; omega

/-- Each column of scales lies inside the tile of scales. -/
theorem hscale_slices (k : Fin 32) : S128x32.Slices ![0, k.val] S128x1 := by revert k; decide

/-- Block `k` of the scaled activations, as the kernel writes it. -/
def hblock (k : Fin 32) : FVec Ideal S128x128 .bf16 :=
  mulf (extf (F := Ideal) .bf16 (shapeCast S128x128 (arg3.view.readAt (Elt Ideal) (Rect.unit (s := S128x4096) ![0, 128 * k.val] S128x128.size (hblock_inb k)).toLoadRect f3)
      shapeCasts_S128x128_S128x128) bitsLt_fp8e4m3_bf16)
    (broadcastTo S128x128 (extractStridedSlice S128x1 ![0, k.val]
      (truncf (F := Ideal) .bf16 (shapeCast S128x32 (arg4.view.readAt (Elt Ideal) (Rect.unit (s := S128x32) ![0, 0] S128x32.size inb_S128x32_S128x32_0_0).toLoadRect f4)
        shapeCasts_S128x32_S128x32) bitsLt_bf16_f32) (hscale_slices k)) broadcasts_S128x1_S128x128)

/-- A dequantised group of the tile, at an index. -/
theorem hblock_apply (k : Fin 32) (r q : Fin 128) : hblock arg3 arg4 c f3 f4 k (ix2 r q)
    = (arg3.view.read (Elt Ideal) f3 (ix2 r ⟨128 * k.val + q.val, by omega⟩) : EReal) * arg4.view.read (Elt Ideal) f4 (ix2 r k) := by
  unfold hblock
  rw [View.readAt_full]
  pointwise
  refine congrArg₂ (fun u v : EReal => u * v) (congrArg (arg3.view.read (Elt Ideal) f3) (funext fun a => Fin.ext ?_)) rfl
  fin_cases a
  · show 0 + 1 * r.val = r.val; omega
  · show 128 * k.val + 1 * q.val = 128 * k.val + q.val; omega

/-- The 32 groups side by side make the whole tile. -/
theorem hcat : Shape.Concatenates ((List.ofFn fun n : Fin 32 => (⟨S128x128, hblock arg3 arg4 c f3 f4 n⟩ : (s : Shape) × (s.Idx → EReal))).map (·.1)) S128x4096 1 :=
  concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x4096_d1

/-- The scaled activations of a tile, put together. -/
def hfull : FVec Ideal S128x4096 .bf16 :=
  concatenate S128x4096 1 (List.ofFn fun n : Fin 32 => (⟨S128x128, hblock arg3 arg4 c f3 f4 n⟩ : (s : Shape) × (s.Idx → EReal))) (hcat arg3 arg4 c f3 f4)

/-- The dequantised tile, at an index. -/
theorem hfull_apply (r : Fin 128) (k : Fin 4096) : hfull arg3 arg4 c f3 f4 (ix2 r k)
    = (arg3.view.read (Elt Ideal) f3 (ix2 r k) : EReal) * arg4.view.read (Elt Ideal) f4 (ix2 r ⟨k.val / 128, by omega⟩) := by
  unfold hfull
  refine (concatenate_ofFn_apply (s₁ := S128x128) 1 (hblock arg3 arg4 c f3 f4) (hcat arg3 arg4 c f3 f4) rfl 128 rfl (ix2 r k) ⟨k.val / 128, by omega⟩ rfl
    (ix2 r ⟨k.val % 128, by omega⟩) rfl ?_).trans ?_
  · intro a ha; fin_cases a
    · rfl
    · exact absurd rfl ha
  · rw [hblock_apply]
    have e : (⟨128 * (k.val / 128) + k.val % 128, by omega⟩ : Fin 4096) = k := Fin.ext (by show 128 * (k.val / 128) + k.val % 128 = k.val; omega)
    simp only [e]

/-- The tile's projected rows: the kernel's expression with the activations put together. -/
theorem pre_eq : tileRun.sl.r_36 (F := Ideal) arg2 arg3 arg4 arg7 arg17 c f2 f3 f4 f7 f17
    = addf (addf (extf (F := Ideal) .f32 (shapeCast S128x1024 (arg2.view.readAt (Elt Ideal) (Rect.unit (s := S128x1024) ![0, 0] S128x1024.size inb_S128x1024_S128x1024_0_0).toLoadRect f2) shapeCasts_S128x1024_S128x1024) bitsLt_bf16_f32)
        (matmul (φ₂ := .bf16) dot_S128x4096_S4096x1024_S128x1024_1_0_0_1_n_n none (hfull arg3 arg4 c f3 f4)
          (arg17.view.readAt (Elt Ideal) (Rect.unit (s := S4096x1024) ![0, 0] S4096x1024.size inb_S4096x1024_S4096x1024_0_0).toLoadRect f17) (constant S128x1024 .f32 0x00000000#32)))
      (broadcastTo S128x1024 (shapeCast S1x1024 (arg7.view.readAt (Elt Ideal) (Rect.unit (s := S1x1024) ![0, 0] S1x1024.size inb_S1x1024_S1x1024_0_0).toLoadRect f7) shapeCasts_S1x1024_S1x1024) broadcasts_S1x1024_S128x1024) := by
  unfold tileRun.sl.r_36 k0_pay366 hfull
  rfl

/-- The projected tile, residual and bias added, at an index. -/
theorem pre_apply (r : Fin 128) (j : Fin 1024) : tileRun.sl.r_36 (F := Ideal) arg2 arg3 arg4 arg7 arg17 c f2 f3 f4 f7 f17 (ix2 r j)
    = Rows.lin (arg2.view.read (Elt Ideal) f2 (ix2 r j))
        (fun k => (arg3.view.read (Elt Ideal) f3 (ix2 r k) : EReal) * arg4.view.read (Elt Ideal) f4 (ix2 r ⟨k.val / 128, by omega⟩))
        (fun k => arg17.view.read (Elt Ideal) f17 (ix2 k j)) (arg7.view.read (Elt Ideal) f7 (ix2 0 j)) := by
  rw [pre_eq, View.readAt_full, View.readAt_full, View.readAt_full]
  pointwise
  simp only [hfull_apply]
  rfl

/-- The tile's row mask. -/
theorem mask_apply (r : Fin 128) : k0_pay367 v30 (ix2 r 0) = IntOp.cmpi .slt (BitVec.ofNat 32 r.val) v30 := by
  unfold k0_pay367
  pointwise

/-- What a tile with valid rows leaves in its block of the layer norm. -/
theorem tile_read (r : Fin 128) (j : Fin 1024) : arg10.view.read (Elt Ideal) (arg10.view.writes (Elt Ideal) f10 (tileRun (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c v16 v30 f2 f3 f4 f7 f8 f9 f17 f10 f13 f14 f18 f19).1.1) (ix2 r j)
    = Scalar.select (IntOp.cmpi .slt (BitVec.ofNat 32 r.val) v30)
        (Rows.norm (fun j => Rows.lin (arg2.view.read (Elt Ideal) f2 (ix2 r j))
          (fun k => (arg3.view.read (Elt Ideal) f3 (ix2 r k) : EReal) * arg4.view.read (Elt Ideal) f4 (ix2 r ⟨k.val / 128, by omega⟩))
          (fun k => arg17.view.read (Elt Ideal) f17 (ix2 k j)) (arg7.view.read (Elt Ideal) f7 (ix2 0 j)))
          (fun j => arg8.view.read (Elt Ideal) f8 (ix2 0 j)) (fun j => arg9.view.read (Elt Ideal) f9 (ix2 0 j)) j) 0 := by
  unfold tileRun; dsimp only; unfold tileRun.sl.H10_1
  rw [View.read_writes_full, View.readAt_full, View.readAt_full, Rows.kernel_norm, mask_apply]
  simp only [pre_apply]
end

end Cert.KernelIdeal.Hand

end
-- ==== Proof.KScalars.lean ====
/-
  The grid's arithmetic: which step is first, the sequence and the first row of a step's tile, the two conditions on the valid row count.
-/
module

public import proofs.«01_k».proof.Proof.KWeight
public import proofs.«01_k».proof.Proof.Rows
public import Idealize.ShloMosaic.Lib.VecWindow
public import Idealize.ShloMosaic.Lib.Pipeline.FrameBody
public import Idealize.ShloMosaic.Lib.Pipeline.Frame
public import Idealize.ShloMosaic.Lib.Tactic
public import Idealize.ShloMosaic.Lib.WordCmp
public import Idealize.ShloMosaic.Lib.Ring
public import Idealize.ShloMosaic.Lib.Pointwise
public import Idealize.ShloMosaic.PureOps.Ideal.Laws

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (i : grid0.Coords) (arg1 : Memref sig .tc .smem S6 .i32) (harg1 : arg1.IsWhole) (arg2 : Memref sig .tc .vmem S128x1024 .bf16) (harg2 : arg2.IsWhole) (arg3 : Memref sig .tc .vmem S128x4096 .fp8e4m3) (harg3 : arg3.IsWhole) (arg4 : Memref sig .tc .vmem S128x32 .f32) (harg4 : arg4.IsWhole) (arg5 : Memref sig .tc .vmem S4096x1024 .fp8e4m3) (harg5 : arg5.IsWhole) (arg6 : Memref sig .tc .smem S32x8 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S6x1024 .f32) (harg11 : arg11.IsWhole) (arg12 : Memref sig .tc .vmem S1x1024 .f32) (harg12 : arg12.IsWhole) (arg13 : Memref sig .tc .vmem S128x1024 .fp8e4m3) (harg13 : arg13.IsWhole) (arg14 : Memref sig .tc .vmem S128x8 .f32) (harg14 : arg14.IsWhole) (arg15 : Memref sig .tc .vmem S6x1024 .i8) (harg15 : arg15.IsWhole) (arg16 : Memref sig .tc .vmem S6x1 .f32) (harg16 : arg16.IsWhole) (arg17 : Memref sig .tc .vmem S4096x1024 .bf16) (harg17 : arg17.IsWhole) (arg18 : Memref sig .tc .vmem S8x1024 .f32) (harg18 : arg18.IsWhole) (arg19 : Memref sig .tc .vmem S1x1024 .f32) (harg19 : arg19.IsWhole)
section
variable {F : FTy → Type} [FloatOps F]

/-- The condition of the first branch: the grid point is the first. -/
theorem firstCond_eq (t : Fin grid0.N) : firstCond (grid0.coords t) = if t.val = 0 then 1#1 else 0#1 := by
  rcases fin_N0 t with rfl | rfl | rfl | rfl | rfl | rfl | rfl | rfl | rfl | rfl | rfl | rfl <;> decide

/-- The tile's first row within its sequence. -/
theorem rowBase_eq (t : Fin grid0.N) : rowBase (grid0.coords t) = BitVec.ofNat 32 (128 * (t.val % 2)) := by
  rcases fin_N0 t with rfl | rfl | rfl | rfl | rfl | rfl | rfl | rfl | rfl | rfl | rfl | rfl <;> decide

/-- The sequence the tile belongs to. -/
theorem off1_eq (t : Fin grid0.N) : k0_off1 (grid0.coords t) 0 = t.val / 2 := by
  rcases fin_N0 t with rfl | rfl | rfl | rfl | rfl | rfl | rfl | rfl | rfl | rfl | rfl | rfl <;> decide

/-- A bit widened and compared with zero is the bit. -/
theorem bit_ne (b : BitVec 1) : Scalar.cmpi .ne (Scalar.extui b : BitVec 32) 0#32 = b := by
  revert b; decide

/-- The condition of the branch for a tile with no valid row. -/
theorem cond2_eq (i : grid0.Coords) (L : BitVec 32) : k0_cond2 i L = Scalar.cmpi .sle (Scalar.subi L (rowBase i)) 0#32 :=
  bit_ne _

/-- The condition of the branch for a tile with a valid row. -/
theorem cond3_eq (i : grid0.Coords) (L : BitVec 32) : k0_cond3 i L = Scalar.cmpi .sgt (Scalar.subi L (rowBase i)) 0#32 :=
  bit_ne _

/-- The grid has twelve points. -/
theorem tlt (t : Fin grid0.N) : t.val < 12 := Nat.lt_of_lt_of_eq t.isLt N_0

/-- The length read at a grid point is that of the tile's sequence. -/
theorem lenAt_eq (c : Dev nD) (t : Fin grid0.N) (f1 : Buf (Elt F) ((Memref.whole main_arg8 : Memref sig .tc .smem S6 .i32).view.loc (c : Thread nD τ))) :
    lenAt (grid0.coords t) (Memref.whole main_arg8) c f1 = f1 (ix1 ⟨t.val / 2, by have := tlt t; omega⟩) := by
  unfold lenAt
  refine congrArg f1 (funext fun a => Fin.ext ?_)
  fin_cases a
  show k0_off1 (grid0.coords t) 0 + 1 * 0 = t.val / 2
  rw [off1_eq]; omega

end

end Cert.KernelIdeal.Hand

end
-- ==== Proof.KTrack.lean ====
/-
  What each step leaves: the dequantised weight in its scratch buffer, and its tile of the layer norm in that result's block.
-/
module

public import proofs.«01_k».proof.Proof.KTileRead
public import proofs.«01_k».proof.Proof.KScalars
public import proofs.«01_k».proof.Proof.Rows
public import Idealize.ShloMosaic.Lib.VecWindow
public import Idealize.ShloMosaic.Lib.Pipeline.FrameBody
public import Idealize.ShloMosaic.Lib.Pipeline.Frame
public import Idealize.ShloMosaic.Lib.Tactic
public import Idealize.ShloMosaic.Lib.WordCmp
public import Idealize.ShloMosaic.Lib.Ring
public import Idealize.ShloMosaic.Lib.Pointwise
public import Idealize.ShloMosaic.PureOps.Ideal.Laws

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordCmp

variable {F : FTy → Type} [FloatOps F]

local notation "𝕄" => MT nD τ sig Unit (Elt F) ℕ (UR sig nD τ) ℕ

variable (i : grid0.Coords) (arg1 : Memref sig .tc .smem S6 .i32) (harg1 : arg1.IsWhole) (arg2 : Memref sig .tc .vmem S128x1024 .bf16) (harg2 : arg2.IsWhole) (arg3 : Memref sig .tc .vmem S128x4096 .fp8e4m3) (harg3 : arg3.IsWhole) (arg4 : Memref sig .tc .vmem S128x32 .f32) (harg4 : arg4.IsWhole) (arg5 : Memref sig .tc .vmem S4096x1024 .fp8e4m3) (harg5 : arg5.IsWhole) (arg6 : Memref sig .tc .smem S32x8 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S6x1024 .f32) (harg11 : arg11.IsWhole) (arg12 : Memref sig .tc .vmem S1x1024 .f32) (harg12 : arg12.IsWhole) (arg13 : Memref sig .tc .vmem S128x1024 .fp8e4m3) (harg13 : arg13.IsWhole) (arg14 : Memref sig .tc .vmem S128x8 .f32) (harg14 : arg14.IsWhole) (arg15 : Memref sig .tc .vmem S6x1024 .i8) (harg15 : arg15.IsWhole) (arg16 : Memref sig .tc .vmem S6x1 .f32) (harg16 : arg16.IsWhole) (arg17 : Memref sig .tc .vmem S4096x1024 .bf16) (harg17 : arg17.IsWhole) (arg18 : Memref sig .tc .vmem S8x1024 .f32) (harg18 : arg18.IsWhole) (arg19 : Memref sig .tc .vmem S1x1024 .f32) (harg19 : arg19.IsWhole)

section
variable (arg10 : Memref sig .tc .vmem S128x1024 .f32) (arg13 : Memref sig .tc .vmem S128x1024 .fp8e4m3) (harg13 : arg13.IsWhole) (arg14 : Memref sig .tc .vmem S128x8 .f32)

/-- A tile with no valid row leaves zeros in its block of the layer norm. -/
theorem skip_read (c : Dev nD) (f10 : Buf (Elt Ideal) (arg10.view.loc (c : Thread nD τ))) (f13 : Buf (Elt Ideal) (arg13.view.loc (c : Thread nD τ))) (f14 : Buf (Elt Ideal) (arg14.view.loc (c : Thread nD τ))) (y : S128x1024.Idx) :
    arg10.view.read (Elt Ideal) (arg10.view.writes (Elt Ideal) f10 (skipRun (F := Ideal) arg10 arg13 harg13 arg14 c f10 f13 f14).1.1) y = (0 : EReal) := by
  unfold skipRun; dsimp only
  rw [View.read_writes_full]
  unfold k0_pay446
  pointwise

end

/-- One row of the layer norm, from the operands as matrices. -/
def normRow (x : S1536x1024.Idx → EReal) (h : S1536x4096.Idx → EReal) (hs : S1536x32.Idx → EReal) (w : S4096x1024.Idx → EReal) (ws : S32x8.Idx → EReal)
    (b g e : S1x1024.Idx → EReal) (r : Fin 1536) (j : Fin 1024) : EReal :=
  Rows.norm (fun j => Rows.lin (x (ix2 r j)) (fun k => h (ix2 r k) * hs (ix2 r ⟨k.val / 128, by omega⟩)) (fun k => deq w ws (ix2 k j)) (b (ix2 0 j)))
    (fun j => g (ix2 0 j)) (fun j => e (ix2 0 j)) j

section
variable (m : (ℓ : Loc nD τ sig) → Buf (Elt Ideal) ℓ) (T : Track m) (c : Dev nD) (t : Fin (cfgA m).N)

/-- A tile's row is a row of the whole. -/
theorem row_lt (t : Fin grid0.N) (r : Fin 128) : 128 * t.val + r.val < 1536 := by have := tlt t; omega

/-- The block of rows that is staged at a point is the point's own. -/
theorem tr_row (t : Fin grid0.N) : cc0_transform_0 (grid0.coords t) 0 = t.val := by
  rcases fin_N0 t with rfl | rfl | rfl | rfl | rfl | rfl | rfl | rfl | rfl | rfl | rfl | rfl <;> decide

/-- What is staged of the residual. -/
theorem fetched0 (d) (r : Fin 128) (j : Fin 1024) : (rdat m T c).fetched 0 t d (ix2 r j) = V m c main_v0 (ix2 ⟨128 * t.val + r.val, row_lt t r⟩ j) := by
  unfold Pipeline.RDat.fetched Pipeline.Window.fill
  rw [dif_pos (((cfgA m).win 0).moved_iff _ _ |>.mpr fun a => (show S128x1024.Idx from ix2 r j) a |>.isLt)]
  refine congrArg (V m c main_v0) (funext fun a => Fin.ext ?_)
  fin_cases a
  · show cc0_transform_0 (grid0.coords t) 0 * 128 + 1 * r.val = 128 * t.val + r.val
    rw [show cc0_transform_0 (grid0.coords t) 0 = t.val from tr_row t]; omega
  · show 0 * 1024 + 1 * j.val = j.val
    omega

/-- What is staged of the codes. -/
theorem fetched1 (d) (r : Fin 128) (j : Fin 4096) : (rdat m T c).fetched 1 t d (ix2 r j) = V m c main_v1 (ix2 ⟨128 * t.val + r.val, row_lt t r⟩ j) := by
  unfold Pipeline.RDat.fetched Pipeline.Window.fill
  rw [dif_pos (((cfgA m).win 1).moved_iff _ _ |>.mpr fun a => (show S128x4096.Idx from ix2 r j) a |>.isLt)]
  refine congrArg (V m c main_v1) (funext fun a => Fin.ext ?_)
  fin_cases a
  · show cc0_transform_1 (grid0.coords t) 0 * 128 + 1 * r.val = 128 * t.val + r.val
    rw [show cc0_transform_1 (grid0.coords t) 0 = t.val from tr_row t]; omega
  · show 0 * 4096 + 1 * j.val = j.val
    omega

/-- What is staged of the scales. -/
theorem fetched2 (d) (r : Fin 128) (j : Fin 32) : (rdat m T c).fetched 2 t d (ix2 r j) = V m c main_v2 (ix2 ⟨128 * t.val + r.val, row_lt t r⟩ j) := by
  unfold Pipeline.RDat.fetched Pipeline.Window.fill
  rw [dif_pos (((cfgA m).win 2).moved_iff _ _ |>.mpr fun a => (show S128x32.Idx from ix2 r j) a |>.isLt)]
  refine congrArg (V m c main_v2) (funext fun a => Fin.ext ?_)
  fin_cases a
  · show cc0_transform_2 (grid0.coords t) 0 * 128 + 1 * r.val = 128 * t.val + r.val
    rw [show cc0_transform_2 (grid0.coords t) 0 = t.val from tr_row t]; omega
  · show 0 * 32 + 1 * j.val = j.val
    omega

/-- The weight codes are staged whole. -/
theorem fetched3 (d) : (rdat m T c).fetched 3 t d = V m c main_arg3 := by
  funext y
  unfold Pipeline.RDat.fetched Pipeline.Window.fill
  rw [dif_pos (((cfgA m).win 3).moved_iff _ _ |>.mpr fun a => (show S4096x1024.Idx from y) a |>.isLt)]
  refine congrArg (V m c main_arg3) (funext fun a => Fin.ext ?_)
  fin_cases a
  · show 0 * 4096 + 1 * ((show S4096x1024.Idx from y) 0).val = ((show S4096x1024.Idx from y) 0).val
    omega
  · show 0 * 1024 + 1 * ((show S4096x1024.Idx from y) 1).val = ((show S4096x1024.Idx from y) 1).val
    omega

/-- The weight scales are staged whole. -/
theorem fetched4 (d) : (rdat m T c).fetched 4 t d = V m c main_arg4 := by
  funext y
  unfold Pipeline.RDat.fetched Pipeline.Window.fill
  rw [dif_pos (((cfgA m).win 4).moved_iff _ _ |>.mpr fun a => (show S32x8.Idx from y) a |>.isLt)]
  refine congrArg (V m c main_arg4) (funext fun a => Fin.ext ?_)
  fin_cases a
  · show 0 * 32 + 1 * ((show S32x8.Idx from y) 0).val = ((show S32x8.Idx from y) 0).val
    omega
  · show 0 * 8 + 1 * ((show S32x8.Idx from y) 1).val = ((show S32x8.Idx from y) 1).val
    omega

/-- The bias is staged whole. -/
theorem fetched5 (d) : (rdat m T c).fetched 5 t d = V m c main_v3 := by
  funext y
  unfold Pipeline.RDat.fetched Pipeline.Window.fill
  rw [dif_pos (((cfgA m).win 5).moved_iff _ _ |>.mpr fun a => (show S1x1024.Idx from y) a |>.isLt)]
  refine congrArg (V m c main_v3) (funext fun a => Fin.ext ?_)
  fin_cases a
  · show 0 * 1 + 1 * ((show S1x1024.Idx from y) 0).val = ((show S1x1024.Idx from y) 0).val
    omega
  · show 0 * 1024 + 1 * ((show S1x1024.Idx from y) 1).val = ((show S1x1024.Idx from y) 1).val
    omega

/-- The layer norm's weights are staged whole. -/
theorem fetched6 (d) : (rdat m T c).fetched 6 t d = V m c main_v4 := by
  funext y
  unfold Pipeline.RDat.fetched Pipeline.Window.fill
  rw [dif_pos (((cfgA m).win 6).moved_iff _ _ |>.mpr fun a => (show S1x1024.Idx from y) a |>.isLt)]
  refine congrArg (V m c main_v4) (funext fun a => Fin.ext ?_)
  fin_cases a
  · show 0 * 1 + 1 * ((show S1x1024.Idx from y) 0).val = ((show S1x1024.Idx from y) 0).val
    omega
  · show 0 * 1024 + 1 * ((show S1x1024.Idx from y) 1).val = ((show S1x1024.Idx from y) 1).val
    omega

/-- The layer norm's offsets are staged whole. -/
theorem fetched7 (d) : (rdat m T c).fetched 7 t d = V m c main_v5 := by
  funext y
  unfold Pipeline.RDat.fetched Pipeline.Window.fill
  rw [dif_pos (((cfgA m).win 7).moved_iff _ _ |>.mpr fun a => (show S1x1024.Idx from y) a |>.isLt)]
  refine congrArg (V m c main_v5) (funext fun a => Fin.ext ?_)
  fin_cases a
  · show 0 * 1 + 1 * ((show S1x1024.Idx from y) 0).val = ((show S1x1024.Idx from y) 0).val
    omega
  · show 0 * 1024 + 1 * ((show S1x1024.Idx from y) 1).val = ((show S1x1024.Idx from y) 1).val
    omega

/-- The reading of an input's buffer in a step, for a relation that leaves the inputs as found. -/
theorem finds_in (hk : ∀ w : Fin 15, w.val < 8 → ∀ t Y X, T.rel w t Y X → X = Y) (w : Fin 15) (hw : w.val < 8) (Y) (hY : (rdat m T c).Finds w t Y) :
    ∃ d, Y = (rdat m T c).fetched w t d :=
  (rdat m T c).finds_in_eq_fetched w (by
    revert hw; exact (by decide : ∀ w : Fin 15, w.val < 8 → (spec0 w).isOut = false) w) (fun _ _ _ => rfl) (hk w hw) t Y hY

/-- What the layer norm's block of tile `t` holds after its step, from the arrays the launch finds. -/
def zmAt (t : Fin (cfgA m).N) (r : Fin 128) (j : Fin 1024) : EReal :=
  Scalar.select (IntOp.cmpi .slt (BitVec.ofNat 32 r.val) (Scalar.subi (V m c main_arg8 (ix1 ⟨t.val / 2, by have := tlt t; omega⟩)) (BitVec.ofNat 32 (128 * (t.val % 2)))))
    (normRow (V m c main_v0) (V m c main_v1) (V m c main_v2) (V m c main_arg3) (V m c main_arg4) (V m c main_v3) (V m c main_v4) (V m c main_v5) ⟨128 * t.val + r.val, row_lt t r⟩ j) 0

/-- The dequantised weight is in place after the first step; each step leaves its tile of the layer norm. -/
def zmTrack : Track m where
  inv n f17 _ _ := 0 < n → S17.view.read (Elt Ideal) f17 = deq (V m 0 main_arg3) (V m 0 main_arg4)
  rel w t Y X := (w.val < 8 → X = Y) ∧ (w = 8 → ∀ Z : S128x1024.Idx → EReal, HEq X Z → ∀ r j, Z (ix2 r j) = zmAt m 0 t r j)

/-- An integer is at most zero or above zero. -/
theorem le_or_gt (v : BitVec 32) : Scalar.cmpi .sle v 0#32 = 1#1 ∨ Scalar.cmpi .sgt v 0#32 = 1#1 := by
  rw [Scalar.cmpi, Scalar.cmpi, cmpi_sle_eq, cmpi_sgt_eq, ofBool_decide_eq_one_iff, ofBool_decide_eq_one_iff]
  omega

/-- A row of a tile with no valid row is zero. -/
theorem select_zero (v : BitVec 32) (h : Scalar.cmpi .sle v 0#32 = 1#1) (r : Fin 128) (x : EReal) :
    Scalar.select (IntOp.cmpi .slt (BitVec.ofNat 32 r.val) v) x 0 = 0 := by
  have : IntOp.cmpi .slt (BitVec.ofNat 32 r.val) v = 0#1 := by
    rw [Scalar.cmpi, cmpi_sle_eq, ofBool_decide_eq_one_iff, show (0#32).toInt = 0 from rfl] at h
    rw [cmpi_slt_eq, ofBool_decide_eq_zero_iff, toInt_ofNat_of_lt (by omega)]
    omega
  rw [this]; rfl

/-- Every grid point keeps the invariant and leaves its tile of the result as stated. -/
theorem step_ok : StepOK m (zmTrack m) := by
  intro c t Y hY f2 f3 f4 f5 f6 f7 f8 f9 f10 f11 f12 f13 f14 f15 f16 f17 f18 f19 a17 a18 a19 a10 a13 a14 b10 b13 b14 b18 b19 b11 b12 b15 b16
    h2 h3 h4 h5 h6 h7 h8 h9 h10 h11 h12 h13 h14 h15 h16 hinv hpost
  obtain rfl : c = 0 := Subsingleton.elim _ _
  have hk : ∀ w : Fin 15, w.val < 8 → ∀ t Y X, (zmTrack m).rel w t Y X → X = Y := fun w hw t Y X h => h.1 hw
  obtain ⟨d0, e0⟩ := finds_in m (zmTrack m) 0 t hk 0 (by decide) _ (hY 0)
  obtain ⟨d1, e1⟩ := finds_in m (zmTrack m) 0 t hk 1 (by decide) _ (hY 1)
  obtain ⟨d2, e2⟩ := finds_in m (zmTrack m) 0 t hk 2 (by decide) _ (hY 2)
  obtain ⟨d3, e3⟩ := finds_in m (zmTrack m) 0 t hk 3 (by decide) _ (hY 3)
  obtain ⟨d4, e4⟩ := finds_in m (zmTrack m) 0 t hk 4 (by decide) _ (hY 4)
  obtain ⟨d5, e5⟩ := finds_in m (zmTrack m) 0 t hk 5 (by decide) _ (hY 5)
  obtain ⟨d6, e6⟩ := finds_in m (zmTrack m) 0 t hk 6 (by decide) _ (hY 6)
  obtain ⟨d7, e7⟩ := finds_in m (zmTrack m) 0 t hk 7 (by decide) _ (hY 7)
  have k2 : ∀ r j, (st2 m t).view.read (Elt Ideal) f2 (ix2 r j) = V m 0 main_v0 (ix2 ⟨128 * t.val + r.val, row_lt t r⟩ j) :=
    fun r j => (congrFun (h2.trans e0) (ix2 r j)).trans (fetched0 m _ 0 t d0 r j)
  have k3 : ∀ r j, (st3 m t).view.read (Elt Ideal) f3 (ix2 r j) = V m 0 main_v1 (ix2 ⟨128 * t.val + r.val, row_lt t r⟩ j) :=
    fun r j => (congrFun (h3.trans e1) (ix2 r j)).trans (fetched1 m _ 0 t d1 r j)
  have k4 : ∀ r j, (st4 m t).view.read (Elt Ideal) f4 (ix2 r j) = V m 0 main_v2 (ix2 ⟨128 * t.val + r.val, row_lt t r⟩ j) :=
    fun r j => (congrFun (h4.trans e2) (ix2 r j)).trans (fetched2 m _ 0 t d2 r j)
  have k5 : (st5 m t).view.read (Elt Ideal) f5 = V m 0 main_arg3 := (h5.trans e3).trans (fetched3 m _ 0 t d3)
  have k6 : (st6 m t).view.read (Elt Ideal) f6 = V m 0 main_arg4 := (h6.trans e4).trans (fetched4 m _ 0 t d4)
  have k7 : (st7 m t).view.read (Elt Ideal) f7 = V m 0 main_v3 := (h7.trans e5).trans (fetched5 m _ 0 t d5)
  have k8 : (st8 m t).view.read (Elt Ideal) f8 = V m 0 main_v4 := (h8.trans e6).trans (fetched6 m _ 0 t d6)
  have k9 : (st9 m t).view.read (Elt Ideal) f9 = V m 0 main_v5 := (h9.trans e7).trans (fetched7 m _ 0 t d7)
  unfold BodyPost at hpost
  obtain ⟨p17, -, -, p10, -, -, q10, -⟩ := hpost
  have w17 : S17.view.read (Elt Ideal) a17 = deq (V m 0 main_arg3) (V m 0 main_arg4) := by
    rw [p17]; unfold i17
    rw [firstCond_eq]
    by_cases ht : t.val = 0
    · rw [if_pos ht, if_pos rfl, weight_read, k5, k6]
    · rw [if_neg ht, if_neg (by decide)]
      exact hinv (Nat.pos_of_ne_zero ht)
  have z : ∀ r j, ((st10 m t).view.read (Elt Ideal) b10 : S128x1024.Idx → EReal) (ix2 r j) = zmAt m 0 t r j := by
    intro r j
    rw [q10]; unfold t10
    rw [cond3_eq, lenAt_eq, rowBase_eq]
    unfold zmAt
    split
    · rw [tile_read, w17, k7, k8, k9]
      simp only [k2, k3, k4]
      rfl
    · rename_i hc
      have hs := (le_or_gt _).resolve_right hc
      rw [p10, s10, cond2_eq, lenAt_eq, rowBase_eq, if_pos hs, skip_read]
      exact (select_zero _ hs r _).symm
  refine ⟨fun _ => w17, fun w hw => ⟨fun _ => rfl, fun h => absurd hw (by rw [h]; decide)⟩, ⟨fun h => absurd h (by decide), fun _ Z hZ => by cases hZ; exact z⟩, ?_, ?_, ?_, ?_, ?_, ?_⟩ <;>
    exact ⟨fun h => absurd h (by decide), fun h => absurd h (by decide)⟩

end

end Cert.KernelIdeal.Hand

end
-- ==== Proof.KQuiet.lean ====
/-
  The arguments end unchanged, for any relation the runs keep; and the frame, at the relation that says nothing of the outputs.
-/
module

public import proofs.«01_k».proof.Proof.KFrame
public import Idealize.ShloMosaic.Lib.Pipeline.FrameBody
public import Idealize.ShloMosaic.Lib.Pipeline.Frame
public import Idealize.ShloMosaic.Lib.Tactic
public import Idealize.ShloMosaic.Lib.WordCmp
public import Idealize.ShloMosaic.Lib.StableHlo.RunRead

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-- A buffer no host operation writes is as at launch when the region is entered. -/
theorem V_unwritten (c : Dev nD) (b : Ref sig .tc) (hb : b ∉ [main_v0, main_v1, main_v2, main_v3, main_v4, main_v5]) :
    V m c b = m ((c : Thread nD τ).loc b) :=
  StableHlo.after_unwritten [main_v0, main_v1, main_v2, main_v3, main_v4, main_v5] rfl hb _

variable {m}

/-- The arguments after the run. -/
theorem args_unchanged {T : Track m} {r : PUnit × MemSt nD τ sig (Elt F)} (h : Pipeline.RDat.FramePost (cfgA m) (rdat m T) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by exact (by decide : ∀ w : Fin 15, (spec0 w).arr.view.ref ≠ main_arg0)))).trans (V_unwritten m c main_arg0 (by decide)),
    ((h c).2 main_arg1 (Pipeline.mem_restRefs_of main_arg1 (by decide) (by exact (by decide : ∀ w : Fin 15, (spec0 w).arr.view.ref ≠ main_arg1)))).trans (V_unwritten m c main_arg1 (by decide)),
    ((h c).2 main_arg2 (Pipeline.mem_restRefs_of main_arg2 (by decide) (by exact (by decide : ∀ w : Fin 15, (spec0 w).arr.view.ref ≠ main_arg2)))).trans (V_unwritten m c main_arg2 (by decide)),
    (h.arr_in c 3 rfl).trans (V_unwritten m c main_arg3 (by decide)),
    (h.arr_in c 4 rfl).trans (V_unwritten m c main_arg4 (by decide)),
    ((h c).2 main_arg5 (Pipeline.mem_restRefs_of main_arg5 (by decide) (by exact (by decide : ∀ w : Fin 15, (spec0 w).arr.view.ref ≠ main_arg5)))).trans (V_unwritten m c main_arg5 (by decide)),
    ((h c).2 main_arg6 (Pipeline.mem_restRefs_of main_arg6 (by decide) (by exact (by decide : ∀ w : Fin 15, (spec0 w).arr.view.ref ≠ main_arg6)))).trans (V_unwritten m c main_arg6 (by decide)),
    ((h c).2 main_arg7 (Pipeline.mem_restRefs_of main_arg7 (by decide) (by exact (by decide : ∀ w : Fin 15, (spec0 w).arr.view.ref ≠ main_arg7)))).trans (V_unwritten m c main_arg7 (by decide)),
    ((h c).2 main_arg8 (Pipeline.mem_restRefs_of main_arg8 (by decide) (by exact (by decide : ∀ w : Fin 15, (spec0 w).arr.view.ref ≠ main_arg8)))).trans (V_unwritten m c main_arg8 (by decide))⟩

variable (m)

/-- The relation that says nothing but that an input's buffer is left as found. -/
def quiet : Track m where
  inv _ _ _ _ := True
  rel w _ Y X := w.val < 8 → X = Y

theorem quiet_ok : StepOK m (quiet m) := by
  unfold StepOK quiet
  intros
  refine ⟨trivial, fun _ _ _ => rfl, ?_, ?_, ?_, ?_, ?_, ?_, ?_⟩ <;> exact fun h => absurd h (by decide)

/-- The frame: the run terminates, the arguments end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => args_unchanged h.1 c, h.2⟩)
    (run_main m ρ (quiet m) (quiet_ok m) fun _ _ _ => trivial)

end Cert.KernelIdeal.Hand

end
-- ==== Proof.KValue.lean ====
/-
  The kernel's masked result as a function of its arguments.
-/
module

public import proofs.«01_k».proof.Proof.KTileRead
public import proofs.«01_k».proof.Proof.KTrack
public import proofs.«01_k».proof.Proof.KQuiet
public import Idealize.ShloMosaic.Lib.Pipeline.ArrRel
public import Idealize.ShloMosaic.Lib.Claim
public import proofs.«01_k».proof.Proof.Rows
public import Idealize.ShloMosaic.Lib.VecWindow
public import Idealize.ShloMosaic.Lib.Pipeline.FrameBody
public import Idealize.ShloMosaic.Lib.Pipeline.Frame
public import Idealize.ShloMosaic.Lib.Tactic
public import Idealize.ShloMosaic.Lib.WordCmp
public import Idealize.ShloMosaic.Lib.Ring
public import Idealize.ShloMosaic.Lib.Pointwise
public import Idealize.ShloMosaic.PureOps.Ideal.Laws

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordCmp

variable (m : (ℓ : Loc nD τ sig) → Buf (Elt Ideal) ℓ) (ρ : Dev nD → PrngReg)

/-- A row's tile is a grid point. -/
theorem row_tile (R : Fin 1536) : R.val / 128 < (cfgA m).N := Nat.lt_of_lt_of_eq (by omega) N_0.symm

/-- The layer norm at row `R`, from the arrays the launch finds. -/
def zmAll (R : Fin 1536) (j : Fin 1024) : EReal := zmAt m 0 ⟨R.val / 128, row_tile m R⟩ ⟨R.val % 128, by omega⟩ j

/-- Every point writes its tile of the result back: the next one's block is another. -/
theorem flush8 (t : Fin (cfgA m).N) : ((cfgA m).win 8).flush t = true := by
  unfold Pipeline.Window.flush
  have h : (t.val + 1 = grid0.N) ∨ ∃ h : t.val + 1 < grid0.N, ((cfgA m).win 8).index ⟨t.val + 1, h⟩ ≠ ((cfgA m).win 8).index t := by
    rcases Nat.lt_or_ge (t.val + 1) grid0.N with h | h
    · refine .inr ⟨h, fun e => ?_⟩
      have e' : cc0_transform_0 (grid0.coords ⟨t.val + 1, h⟩) 0 = cc0_transform_0 (grid0.coords t) 0 := congrFun e (0 : Fin 2)
      rw [tr_row, tr_row] at e'
      exact absurd e' (Nat.succ_ne_self _)
    · exact .inl (Nat.le_antisymm t.isLt h)
  rw [Bool.and_eq_true_iff]
  refine ⟨rfl, ?_⟩
  rw [Bool.or_eq_true_iff, decide_eq_true_iff, decide_eq_true_iff]
  exact h

/-- The row of the result a tile's row is. -/
theorem emb8_0 (t : Fin (cfgA m).N) (y : S128x1024.Idx) : ((((cfgA m).win 8).blk t).view.emb y (0 : Fin 2)).val = 128 * t.val + (y 0).val := by
  show cc0_transform_8 (grid0.coords t) 0 * 128 + 1 * (y 0).val = _
  rw [show cc0_transform_8 (grid0.coords t) 0 = t.val from tr_row t]; omega

/-- The column of the result a tile's column is. -/
theorem emb8_1 (t : Fin (cfgA m).N) (y : S128x1024.Idx) : ((((cfgA m).win 8).blk t).view.emb y (1 : Fin 2)).val = (y 1).val := by
  show 0 * 1024 + 1 * (y 1).val = _
  omega

/-- Every row of the result is a row of its tile. -/
theorem emb8 (R : Fin 1536) (j : Fin 1024) :
    (((cfgA m).win 8).blk ⟨R.val / 128, row_tile m R⟩).view.emb (ix2 (⟨R.val % 128, by omega⟩ : Fin 128) j : S128x1024.Idx) = (ix2 R j : S1536x1024.Idx) := by
  funext a; apply Fin.ext
  fin_cases a
  · refine (emb8_0 m _ _).trans ?_
    show 128 * (R.val / 128) + R.val % 128 = R.val
    omega
  · exact emb8_1 m _ (ix2 (⟨R.val % 128, by omega⟩ : Fin 128) j : S128x1024.Idx)

/-- The tiles cover the result. -/
theorem covers8 (R : Fin 1536) (j : Fin 1024) : ∃ t : Fin (cfgA m).N, ((cfgA m).win 8).flush t = true ∧ (ix2 R j : S1536x1024.Idx) ∈ (((cfgA m).win 8).blk t).view.set :=
  ⟨⟨R.val / 128, row_tile m R⟩, flush8 m _,
    Eq.mp (congrArg (fun z => z ∈ (((cfgA m).win 8).blk ⟨R.val / 128, row_tile m R⟩).view.set) (emb8 m R j)) (View.emb_mem_set _ _)⟩

/-- The same at any index. -/
theorem covers8' (i : S1536x1024.Idx) : ∃ t : Fin (cfgA m).N, ((cfgA m).win 8).flush t = true ∧ i ∈ (((cfgA m).win 8).blk t).view.set := by
  obtain ⟨t, hf, ht⟩ := covers8 m (i 0) (i 1)
  refine ⟨t, hf, ?_⟩
  have : (ix2 (i 0) (i 1) : S1536x1024.Idx) = i := by funext a; match a with | 0 => rfl | 1 => rfl
  exact Eq.mp (congrArg (fun z => z ∈ (((cfgA m).win 8).blk t).view.set) this) ht

/-- What the body leaves of a tile. -/
theorem left8 {after : (w : Fin (cfgA m).W) → Fin (cfgA m).N → ((cfgA m).win w).block.Idx → Elt Ideal ((cfgA m).win w).elt} (hL : ∀ (w : Fin (cfgA m).W) (u : Fin (cfgA m).N), ((cfgA m).win w).flush u = true → (rdat m (zmTrack m) 0).Leaves w u (after w u))
    (t : Fin (cfgA m).N) (y : S128x1024.Idx) :
    (after (8 : Fin (cfgA m).W) t : S128x1024.Idx → EReal) y = zmAt m 0 t (y 0) (y 1) := by
  obtain ⟨Y, -, hX⟩ := hL 8 t (flush8 m t)
  have z := hX.2 rfl _ HEq.rfl (y 0) (y 1)
  refine Eq.trans ?_ z
  exact congrArg (after (8 : Fin (cfgA m).W) t : S128x1024.Idx → EReal) (by funext a; match a with | 0 => rfl | 1 => rfl)

/-- The same at the rows of the result. -/
theorem left8_all {after : (w : Fin (cfgA m).W) → Fin (cfgA m).N → ((cfgA m).win w).block.Idx → Elt Ideal ((cfgA m).win w).elt} (hL : ∀ (w : Fin (cfgA m).W) (u : Fin (cfgA m).N), ((cfgA m).win w).flush u = true → (rdat m (zmTrack m) 0).Leaves w u (after w u))
    (R : Fin 1536) (j : Fin 1024) (t : Fin (cfgA m).N) (y : S128x1024.Idx) (hy : (((cfgA m).win 8).blk t).view.emb y = (ix2 R j : S1536x1024.Idx)) :
    (after (8 : Fin (cfgA m).W) t : S128x1024.Idx → EReal) y = zmAll m R j := by
  refine (left8 m hL t y).trans ?_
  have h0 : R.val = 128 * t.val + (y 0).val := Eq.trans (congrArg (fun i : S1536x1024.Idx => (i 0).val) hy.symm) (emb8_0 m t y)
  have h1 : j.val = (y 1).val := Eq.trans (congrArg (fun i : S1536x1024.Idx => (i 1).val) hy.symm) (emb8_1 m t y)
  have hy0 : (y 0).val < 128 := (y 0).isLt
  unfold zmAll
  have e1 : t = ⟨R.val / 128, row_tile m R⟩ := Fin.ext (show t.val = R.val / 128 by omega)
  have e2 : (y 0 : Fin 128) = ⟨R.val % 128, by omega⟩ := Fin.ext (show (y 0).val = R.val % 128 by omega)
  have e3 : (y 1 : Fin 1024) = j := Fin.ext h1.symm
  rw [e1]
  exact congrArg₂ (zmAt m 0 _) e2 e3

/-- The result after the run. -/
theorem final_zm {r} (h : Pipeline.RDat.FramePost (cfgA m) (rdat m (zmTrack m)) (V m) r) (R : Fin 1536) (j : Fin 1024) :
    (r.2.mem (((0 : Dev nD).tc : Thread nD τ).loc main_v6_0) : S1536x1024.Idx → EReal) (ix2 R j) = zmAll m R j := by
  obtain ⟨after, hL, hA⟩ := h.exists_exact 0
  have e := hA 8
  refine (congrFun e (ix2 R j : S1536x1024.Idx)).trans ?_
  refine Pipeline.Dat.arrAt_forall_of_cover ((rdat m (zmTrack m) 0).withAfter after) 8 (fun (i : S1536x1024.Idx) (v : EReal) => i = ix2 R j → v = zmAll m R j) (fun t hf y hy => ?_) (fun i => ?_) (ix2 R j : S1536x1024.Idx) rfl
  · exact left8_all m hL R j t y hy
  · exact covers8' m i

/-! The region's operands, from the arguments. -/

/-- The residual. -/
theorem v0 (c : Dev nD) (R : Fin 1536) (j : Fin 1024) : V m c main_v0 (ix2 R j) = (m ((c : Thread nD τ).loc main_arg0) : Vec Ideal S6x256x1024 .bf16) (ix3 ⟨R.val / 256, by omega⟩ ⟨R.val % 256, by omega⟩ j) := by
  unfold V
  entry_read
  pointwise

/-- The codes. -/
theorem v1 (c : Dev nD) (R : Fin 1536) (k : Fin 4096) : V m c main_v1 (ix2 R k) = (m ((c : Thread nD τ).loc main_arg1) : Vec Ideal S6x256x4096 .fp8e4m3) (ix3 ⟨R.val / 256, by omega⟩ ⟨R.val % 256, by omega⟩ k) := by
  unfold V
  entry_read
  pointwise

/-- The scales. -/
theorem v2 (c : Dev nD) (R : Fin 1536) (k : Fin 32) : V m c main_v2 (ix2 R k) = (m ((c : Thread nD τ).loc main_arg2) : Vec Ideal S6x256x32 .f32) (ix3 ⟨R.val / 256, by omega⟩ ⟨R.val % 256, by omega⟩ k) := by
  unfold V
  entry_read
  pointwise

/-- The bias. -/
theorem v3 (c : Dev nD) (j : Fin 1024) : V m c main_v3 (ix2 0 j) = (m ((c : Thread nD τ).loc main_arg5) : Vec Ideal S1024 .f32) (ix1 j) := by
  unfold V
  entry_read
  pointwise

/-- The layer norm's weights. -/
theorem v4 (c : Dev nD) (j : Fin 1024) : V m c main_v4 (ix2 0 j) = (m ((c : Thread nD τ).loc main_arg6) : Vec Ideal S1024 .f32) (ix1 j) := by
  unfold V
  entry_read
  pointwise

/-- The layer norm's offsets. -/
theorem v5 (c : Dev nD) (j : Fin 1024) : V m c main_v5 (ix2 0 j) = (m ((c : Thread nD τ).loc main_arg7) : Vec Ideal S1024 .f32) (ix1 j) := by
  unfold V
  entry_read
  pointwise

/-- A row below what is left of the sequence at its tile is a row of the sequence below its length, if the tile's first row
    can be subtracted from the length. -/
theorem mask_eq (R : ℕ) (hR : R < 1536) (len : BitVec 32) (h : IntOp.cmpi .sge len 2147483776#32 = 1#1) :
    IntOp.cmpi .slt (BitVec.ofNat 32 (R % 128)) (Scalar.subi len (BitVec.ofNat 32 (128 * (R / 128 % 2))))
      = IntOp.cmpi .slt (BitVec.ofNat 32 (R % 256)) len := by
  rw [cmpi_sge_eq, ofBool_decide_eq_one_iff] at h
  have hb : (2147483776#32).toInt = -2147483520 := by decide
  rw [hb] at h
  rw [cmpi_slt_eq, cmpi_slt_eq]
  have l1 : len.toInt < 2147483648 := by have := BitVec.toInt_lt (x := len); omega
  have e1 : (BitVec.ofNat 32 (R % 128)).toInt = (R % 128 : ℕ) := toInt_ofNat_of_lt (by omega)
  have e2 : (BitVec.ofNat 32 (R % 256)).toInt = (R % 256 : ℕ) := toInt_ofNat_of_lt (by omega)
  have e3 : (BitVec.ofNat 32 (128 * (R / 128 % 2))).toInt = (128 * (R / 128 % 2) : ℕ) := toInt_ofNat_of_lt (by omega)
  have e4 : (Scalar.subi len (BitVec.ofNat 32 (128 * (R / 128 % 2)))).toInt = len.toInt - (128 * (R / 128 % 2) : ℕ) := by
    show (len - BitVec.ofNat 32 (128 * (R / 128 % 2))).toInt = _
    rw [BitVec.toInt_sub, e3]
    exact Int.bmod_eq_of_le (by omega) (by omega)
  rw [e1, e2, e4]
  have : ((R % 128 : ℕ) : ℤ) < len.toInt - (128 * (R / 128 % 2) : ℕ) ↔ ((R % 256 : ℕ) : ℤ) < len.toInt := by omega
  simp only [this]

/-- The kernel's result, from the arguments. -/
theorem zm_eq (hlen : ∀ q : Fin 6, IntOp.cmpi .sge ((m (((0 : Dev nD) : Thread nD τ).loc main_arg8) : IVec S6 32) (ix1 q)) 2147483776#32 = 1#1) (R : Fin 1536) (j : Fin 1024) : zmAll m R j
    = Rows.result (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)) (m (((0 : Dev nD) : Thread nD τ).loc main_arg6)) (m (((0 : Dev nD) : Thread nD τ).loc main_arg7)) (m (((0 : Dev nD) : Thread nD τ).loc main_arg8)) R j := by
  have eR : (⟨128 * (R.val / 128) + R.val % 128, by omega⟩ : Fin 1536) = R := Fin.ext (by show 128 * (R.val / 128) + R.val % 128 = R.val; omega)
  have q : ∀ h, (⟨R.val / 128 / 2, h⟩ : Fin 6) = ⟨R.val / 256, by omega⟩ := fun h => Fin.ext (by show R.val / 128 / 2 = R.val / 256; omega)
  have e3 : (V m 0 main_arg3 : S4096x1024.Idx → EReal) = m (((0 : Dev nD) : Thread nD τ).loc main_arg3) := V_unwritten m 0 main_arg3 (by decide)
  have e4 : (V m 0 main_arg4 : S32x8.Idx → EReal) = m (((0 : Dev nD) : Thread nD τ).loc main_arg4) := V_unwritten m 0 main_arg4 (by decide)
  have e8 : (V m 0 main_arg8 : S6.Idx → BitVec 32) = m (((0 : Dev nD) : Thread nD τ).loc main_arg8) := V_unwritten m 0 main_arg8 (by decide)
  unfold zmAll zmAt
  refine (congrArg (fun z => Scalar.select _ z _) (congrArg (fun R => normRow (V m 0 main_v0) (V m 0 main_v1) (V m 0 main_v2) (V m 0 main_arg3) (V m 0 main_arg4) (V m 0 main_v3) (V m 0 main_v4) (V m 0 main_v5) R j) eR)).trans ?_
  dsimp only
  rw [q, e8, mask_eq R.val R.isLt _ (hlen _)]
  unfold Rows.result normRow deq
  simp only [v0, v1, v2, v3, v4, v5, e3, e4]
  rfl

/-- The kernel's run: the result in its buffer, the arguments as launched. -/
theorem run_zm (ρ : Dev nD → PrngReg) (hlen : ∀ q : Fin 6, IntOp.cmpi .sge ((m (((0 : Dev nD) : Thread nD τ).loc main_arg8) : IVec S6 32) (ix1 q)) 2147483776#32 = 1#1) :
    θ_run defs (onTc (τ := τ) (main (F := Ideal))) ⟨m, fun _ => 0, ρ⟩ fun r => ∀ R j,
      (r.2.mem (((0 : Dev nD).tc : Thread nD τ).loc main_v6_0) : S1536x1024.Idx → EReal) (ix2 R j)
        = Rows.result (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)) (m (((0 : Dev nD) : Thread nD τ).loc main_arg6)) (m (((0 : Dev nD) : Thread nD τ).loc main_arg7)) (m (((0 : Dev nD) : Thread nD τ).loc main_arg8)) R j :=
  (θ_run defs _ _).mono (fun r h R j => (final_zm m h.1 R j).trans (zm_eq m hlen R j))
    (run_main m ρ (zmTrack m) (step_ok m) fun _ _ _ h => absurd h (lt_irrefl 0))

end Cert.KernelIdeal.Hand

end
-- ==== Proof.RValue.lean ====
/-
  The reference's masked result as a function of its arguments.
-/
module

public import proofs.«01_k».proof.Proof.Rows
public import proofs.«01_k».proof.Proof.Gen.ReferenceIdeal.Frame
public import Idealize.ShloMosaic.Lib.Pipeline.Value
public import Idealize.ShloMosaic.Lib.Pipeline.ValueKit.Geometry
public import Idealize.ShloMosaic.Lib.Claim
public import Idealize.ShloMosaic.Lib.Pointwise
public import Idealize.ShloMosaic.Lib.WordCmp

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.Tactic
open Idealize.SL.Sem Idealize.ShloMosaic.WordCmp

variable (m : (l : Loc nD τ sig) → Buf (Elt Ideal) l) (c : Dev nD)

/-- The one grid point. -/
def pt : Fin cfg0.N := ⟨0, by decide +kernel⟩

/-- The one point writes the result back. -/
theorem flush10 : (cfg0.win 10).flush pt = true := by decide +kernel

/-- There is one point only, so no two write-backs meet. -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => absurd ((by decide +kernel : ∀ t t' : Fin cfg0.N, t = t') t t') hne

/-! The region has one point, and there every input block is its whole array. -/

/-- The residual. -/
theorem iblk_0 : iblk m c 0 pt = (V m c main_v16 : Vec Ideal S1536x1024 .bf16) :=
  funext fun i => congrArg (V m c main_v16) (funext fun a => Fin.ext (win0_0.rect_emb_val_of_index_zero pt a rfl i))

/-- The codes. -/
theorem iblk_1 : iblk m c 1 pt = (V m c main_v17 : Vec Ideal S1536x4096 .fp8e4m3) :=
  funext fun i => congrArg (V m c main_v17) (funext fun a => Fin.ext (win0_1.rect_emb_val_of_index_zero pt a rfl i))

/-- The scales, one per code. -/
theorem iblk_2 : iblk m c 2 pt = (V m c main_v3 : Vec Ideal S1536x4096 .bf16) :=
  funext fun i => congrArg (V m c main_v3) (funext fun a => Fin.ext (win0_2.rect_emb_val_of_index_zero pt a rfl i))

/-- The weight codes. -/
theorem iblk_3 : iblk m c 3 pt = (V m c main_arg3 : Vec Ideal S4096x1024 .fp8e4m3) :=
  funext fun i => congrArg (V m c main_arg3) (funext fun a => Fin.ext (win0_3.rect_emb_val_of_index_zero pt a rfl i))

/-- The weight scales, one per code. -/
theorem iblk_4 : iblk m c 4 pt = (V m c main_v7 : Vec Ideal S4096x1024 .bf16) :=
  funext fun i => congrArg (V m c main_v7) (funext fun a => Fin.ext (win0_4.rect_emb_val_of_index_zero pt a rfl i))

/-- The bias. -/
theorem iblk_5 : iblk m c 5 pt = (V m c main_v18 : Vec Ideal S1x1024 .f32) :=
  funext fun i => congrArg (V m c main_v18) (funext fun a => Fin.ext (win0_5.rect_emb_val_of_index_zero pt a rfl i))

/-- The layer norm's weights. -/
theorem iblk_6 : iblk m c 6 pt = (V m c main_v19 : Vec Ideal S1x1024 .f32) :=
  funext fun i => congrArg (V m c main_v19) (funext fun a => Fin.ext (win0_6.rect_emb_val_of_index_zero pt a rfl i))

/-- The layer norm's offsets. -/
theorem iblk_7 : iblk m c 7 pt = (V m c main_v20 : Vec Ideal S1x1024 .f32) :=
  funext fun i => congrArg (V m c main_v20) (funext fun a => Fin.ext (win0_7.rect_emb_val_of_index_zero pt a rfl i))

/-- The mask. -/
theorem iblk_8 : iblk m c 8 pt = (V m c main_v15 : Vec Ideal S1536x1 .i32) :=
  funext fun i => congrArg (V m c main_v15) (funext fun a => Fin.ext (win0_8.rect_emb_val_of_index_zero pt a rfl i))

/-- The lengths. -/
theorem iblk_9 : iblk m c 9 pt = (V m c main_v22 : Vec Ideal S6x1 .f32) :=
  funext fun i => congrArg (V m c main_v22) (funext fun a => Fin.ext (win0_9.rect_emb_val_of_index_zero pt a rfl i))

/-- The result array after the run, at an index. -/
theorem arr_read (i : S1536x1024.Idx) : ((dats m 0 c).arrAt 10 cfg0.N : S1536x1024.Idx → EReal) i = ((dats m 0 c).after 10 pt : S1536x1024.Idx → EReal) i := by
  refine Eq.trans ?_ (congrFun (Pipeline.Dat.read_blk_arrAt_eq_flushed (dats m 0 c) 10 disjoint10 cfg0.N pt (Fin.isLt _) flush10) i)
  generalize (dats m 0 c).arrAt 10 cfg0.N = X
  blk_simp
  exact congrArg X (funext fun a => Fin.ext (win0_10.rect_emb_val_of_index_zero pt a rfl i).symm)

/-- The result array is the body's result of the operand arrays. -/
theorem arr_zm (i : S1536x1024.Idx) : ((dats m 0 c).arrAt 10 cfg0.N : S1536x1024.Idx → EReal) i
    = out0_10 (F := Ideal) (V m c main_v16) (V m c main_v17) (V m c main_v3) (V m c main_arg3) (V m c main_v7) (V m c main_v18) (V m c main_v19) (V m c main_v20) (V m c main_v15) (V m c main_v22) i := by
  refine (arr_read m c i).trans ?_
  rw [after0_10, iblk_0, iblk_1, iblk_2, iblk_3, iblk_4, iblk_5, iblk_6, iblk_7, iblk_8, iblk_9]

/-- The body's masked result, at an index. -/
theorem out_zm (x0 : Vec Ideal S1536x1024 .bf16) (x1 : Vec Ideal S1536x4096 .fp8e4m3) (x2 : Vec Ideal S1536x4096 .bf16) (x3 : Vec Ideal S4096x1024 .fp8e4m3) (x4 : Vec Ideal S4096x1024 .bf16) (x5 : Vec Ideal S1x1024 .f32) (x6 : Vec Ideal S1x1024 .f32) (x7 : Vec Ideal S1x1024 .f32) (x8 : Vec Ideal S1536x1 .i32) (x9 : Vec Ideal S6x1 .f32) (r : Fin 1536) (j : Fin 1024) :
    out0_10 x0 x1 x2 x3 x4 x5 x6 x7 x8 x9 (ix2 r j) = Scalar.select (IntOp.cmpi .sgt (x8 (ix2 r 0)) 0#32)
          (Rows.norm (fun j => Rows.lin (x0 (ix2 r j)) (fun k => x1 (ix2 r k) * x2 (ix2 r k)) (fun k => x3 (ix2 k j) * x4 (ix2 k j)) (x5 (ix2 0 j)))
            (fun j => x6 (ix2 0 j)) (fun j => x7 (ix2 0 j)) j) 0 := by
  unfold_out out0_10
  have z : (![0, 0] : Fin 2 → ℕ) = fun _ => 0 := by funext a; match a with | 0 => rfl | 1 => rfl
  rw [View.canon_cons_unit_zero z, View.ld_unit_zero z, View.ld_unit_zero z, View.ld_unit_zero z, View.ld_unit_zero z, View.ld_unit_zero z, View.ld_unit_zero z,
    View.ld_unit_zero z, View.ld_unit_zero z, View.ld_unit_zero z]
  exact Rows.reference_norm _ _ _ _ _ _ _ _ _ r j

/-- The residual, from the arguments. -/
theorem v16 (R : Fin 1536) (j : Fin 1024) : V m c main_v16 (ix2 R j) = (m ((c : Thread nD τ).loc main_arg0) : Vec Ideal S6x256x1024 .bf16) (ix3 ⟨R.val / 256, by omega⟩ ⟨R.val % 256, by omega⟩ j) := by
  entry_read
  pointwise

/-- The scale of a code, from the arguments. -/
theorem v3 (r : Fin 1536) (k : Fin 4096) : V m c main_v3 (ix2 r k) = (m ((c : Thread nD τ).loc main_arg2) : Vec Ideal S6x256x32 .f32) (ix3 ⟨r.val / 256, by omega⟩ ⟨r.val % 256, by omega⟩ ⟨k.val / 128, by omega⟩) := by
  entry_read
  pointwise

/-- The scale of a weight code, from the arguments. -/
theorem v7 (r : Fin 4096) (k : Fin 1024) : V m c main_v7 (ix2 r k) = (m ((c : Thread nD τ).loc main_arg4) : Vec Ideal S32x8 .f32) (ix2 ⟨r.val / 128, by omega⟩ ⟨k.val / 128, by omega⟩) := by
  entry_read
  pointwise

/-- A bit widened and compared with zero is the bit. -/
theorem bit_pos (z : BitVec 1) : IntOp.cmpi .sgt (BitVec.setWidth 32 z) 0#32 = z := by
  revert z; decide

/-- The mask, from the arguments: the row is below the length of its sequence. -/
theorem v15 (r : Fin 1536) : IntOp.cmpi .sgt (V m c main_v15 (ix2 r 0)) 0#32 = IntOp.cmpi .slt (BitVec.ofNat 32 (r.val % 256)) ((m ((c : Thread nD τ).loc main_arg8) : IVec S6 32) (ix1 ⟨r.val / 256, by omega⟩)) := by
  entry_read
  pointwise
  exact bit_pos _

/-- The codes, from the arguments. -/
theorem v17 (R : Fin 1536) (k : Fin 4096) : V m c main_v17 (ix2 R k) = (m ((c : Thread nD τ).loc main_arg1) : Vec Ideal S6x256x4096 .fp8e4m3) (ix3 ⟨R.val / 256, by omega⟩ ⟨R.val % 256, by omega⟩ k) := by
  entry_read
  pointwise

/-- The bias, from the arguments. -/
theorem v18 (j : Fin 1024) : V m c main_v18 (ix2 0 j) = (m ((c : Thread nD τ).loc main_arg5) : Vec Ideal S1024 .f32) (ix1 j) := by
  entry_read
  pointwise

/-- The layer norm's weights, from the arguments. -/
theorem v19 (j : Fin 1024) : V m c main_v19 (ix2 0 j) = (m ((c : Thread nD τ).loc main_arg6) : Vec Ideal S1024 .f32) (ix1 j) := by
  entry_read
  pointwise

/-- The layer norm's offsets, from the arguments. -/
theorem v20 (j : Fin 1024) : V m c main_v20 (ix2 0 j) = (m ((c : Thread nD τ).loc main_arg7) : Vec Ideal S1024 .f32) (ix1 j) := by
  entry_read
  pointwise

/-- The reference's result, from the arguments. -/
theorem zm_eq (R : Fin 1536) (j : Fin 1024) : ((dats m 0 c).arrAt 10 cfg0.N : S1536x1024.Idx → EReal) (ix2 R j)
    = Rows.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R j := by
  refine (arr_zm m c _).trans ((out_zm _ _ _ _ _ _ _ _ _ _ R j).trans ?_)
  have e3 : (V m c main_arg3 : Vec Ideal S4096x1024 .fp8e4m3) = m ((c : Thread nD τ).loc main_arg3) := V_main_arg3 m c
  rw [v15]
  unfold Rows.result
  have h0 := v16 m c R; have h1 := v17 m c R; have h2 := v3 m c R; have h4 := v7 m c; have h5 := v18 m c; have h6 := v19 m c; have h7 := v20 m c
  revert h0 h1 h2 h4 h5 h6 h7 e3
  generalize V m c main_v16 = x0
  generalize V m c main_v17 = x1
  generalize V m c main_v3 = x2
  generalize V m c main_arg3 = x3
  generalize V m c main_v7 = x4
  generalize V m c main_v18 = x5
  generalize V m c main_v19 = x6
  generalize V m c main_v20 = x7
  intro e3 h0 h1 h2 h4 h5 h6 h7
  simp only [h0, h1, h2, h4, h5, h6, h7, e3]

/-- The reference's run: the result in its buffer, the arguments as launched. -/
theorem run_zm (ρ : Dev nD → PrngReg) : θ_run defs (onTc (τ := τ) (main (F := Ideal))) ⟨m, fun _ => 0, ρ⟩ fun r => ∀ c : Dev nD,
    (∀ R j, (r.2.mem ((c : Thread nD τ).loc main_v23_0) : S1536x1024.Idx → EReal) (ix2 R j)
      = Rows.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R j) :=
  (θ_run defs _ _).mono (fun r h c R j => (congrFun ((h c).1 10) (ix2 R j : S1536x1024.Idx)).trans (zm_eq m c R j)) (run_main m ρ)

end Cert.ReferenceIdeal.Hand
-- ==== Proof.lean ====
module

public import proofs.«01_k».proof.Defs
public import proofs.«01_k».proof.Proof.BitsQuiet
public import proofs.«01_k».proof.Proof.KValue
public import proofs.«01_k».proof.Proof.RValue
public import Idealize.ShloMosaic.Lib.ReduceAll

@[expose] public section

noncomputable section

namespace Cert.Proof

open Idealize.ShloMosaic Idealize.ShloMosaic.TcCoe Idealize.SL.Sem Cert.Kernel

/-- The side conditions the precondition states. -/
theorem preFacts : Cert.Pre_in_range.Facts where
  bcast_S_S6 := by decide
  reducesTo_S6_S_d0 := by decide
  h_S_ := by decide

instance : Subsingleton Cert.Pre_in_range.S_.Idx := ⟨fun _ _ => funext fun a => a.elim0⟩

/-- The precondition, of each sequence's length. -/
theorem lengths (m : (ℓ : Loc Cert.KernelIdeal.nD Cert.KernelIdeal.τ Cert.KernelIdeal.sig) → Buf (Elt Ideal) ℓ)
    (h : Pre_KernelIdeal_in_range (hPre_in_range := preFacts) m) (q : Fin 6) :
    IntOp.cmpi .sge ((m (((0 : Dev Cert.KernelIdeal.nD) : Thread Cert.KernelIdeal.nD Cert.KernelIdeal.τ).loc Cert.KernelIdeal.main_arg8) : IVec Cert.KernelIdeal.S6 32) (ix1 q)) 2147483776#32 = 1#1 := by
  have e := congrFun (h 0) (fun a => a.elim0)
  unfold Cert.Pre_in_range.fn at e
  exact Host.reduce_andi_all _ _ _ _ _ e (ix1 q)

/-- The kernel's masked layer norm is the reference's. -/
theorem algebraic : algebraic_KernelIdeal_ReferenceIdeal_pre_in_range (hKernelIdeal := Cert.KernelIdeal.Gen.facts)
    (hReferenceIdeal := Cert.ReferenceIdeal.Gen.facts) (hPre_in_range := preFacts) := by
  intro m g m' g' hpre hargs
  obtain ⟨a0, a1, a2, a3, a4, a5, a6, a7, a8⟩ := hargs 0
  have hk := Cert.KernelIdeal.Hand.run_zm m g (lengths m hpre)
  have hkf := Cert.KernelIdeal.Hand.frame (F := Ideal) m g
  have hr := Cert.ReferenceIdeal.Hand.run_zm m' g'
  have hrf := Cert.ReferenceIdeal.Gen.unchanged (F := Ideal) m' g'
  refine ⟨fun c => fun i : Cert.KernelIdeal.S1536x1024.Idx => Rows.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (i 0) (i 1), ?_, ?_⟩
  · refine (θ_run Cert.KernelIdeal.defs _ _).mono (fun r h c => ?_) (θ_run_and hk hkf)
    obtain rfl : c = 0 := Subsingleton.elim _ _
    refine ⟨funext fun i : Cert.KernelIdeal.S1536x1024.Idx => ?_, h.2.1 0⟩
    have e : (ix2 (i 0) (i 1) : Cert.KernelIdeal.S1536x1024.Idx) = i := by funext a; match a with | 0 => rfl | 1 => rfl
    exact (congrArg (r.2.mem (((0 : Dev Cert.KernelIdeal.nD).tc : Thread Cert.KernelIdeal.nD Cert.KernelIdeal.τ).loc Cert.KernelIdeal.main_v6_0) : Cert.KernelIdeal.S1536x1024.Idx → EReal) e).symm.trans (h.1 (i 0) (i 1))
  · refine (θ_run Cert.ReferenceIdeal.defs _ _).mono (fun r h c => ?_) (θ_run_and hr hrf)
    obtain rfl : c = 0 := Subsingleton.elim _ _
    refine ⟨funext fun i : Cert.ReferenceIdeal.S1536x1024.Idx => ?_, h.2 0⟩
    have e : (ix2 (i 0) (i 1) : Cert.ReferenceIdeal.S1536x1024.Idx) = i := by funext a; match a with | 0 => rfl | 1 => rfl
    have z := h.1 0 (i 0) (i 1)
    rw [a0, a1, a2, a3, a4, a5, a6, a7, a8] at z
    exact (congrArg (r.2.mem (((0 : Dev Cert.ReferenceIdeal.nD).tc : Thread Cert.ReferenceIdeal.nD Cert.ReferenceIdeal.τ).loc Cert.ReferenceIdeal.main_v23_0) : Cert.ReferenceIdeal.S1536x1024.Idx → EReal) e).symm.trans z

theorem claim : Cert.Claim := ⟨Cert.Kernel.Gen.facts, Cert.KernelIdeal.Gen.facts, Cert.ReferenceIdeal.Gen.facts, preFacts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, algebraic⟩

end Cert.Proof

end
